-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v12)) (v1 : (c : Dev Cert.KernelIdeal.nD) → Buf (Elt Ideal) ((c.tc : Thread Cert.KernelIdeal.nD Cert.KernelIdeal.τ).loc Cert.KernelIdeal.main_v14)) (v2 : (c : Dev Cert.KernelIdeal.nD) → Buf (Elt Ideal) ((c.tc : Thread Cert.KernelIdeal.nD Cert.KernelIdeal.τ).loc Cert.KernelIdeal.main_v16)) (v3 : (c : Dev Cert.KernelIdeal.nD) → Buf (Elt Ideal) ((c.tc : Thread Cert.KernelIdeal.nD Cert.KernelIdeal.τ).loc Cert.KernelIdeal.main_v18)) (v4 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_v14) = v1 c
          ∧ r.2.mem ((c.tc : Thread Cert.KernelIdeal.nD Cert.KernelIdeal.τ).loc Cert.KernelIdeal.main_v16) = v2 c
          ∧ r.2.mem ((c.tc : Thread Cert.KernelIdeal.nD Cert.KernelIdeal.τ).loc Cert.KernelIdeal.main_v18) = v3 c
          ∧ r.2.mem ((c.tc : Thread Cert.KernelIdeal.nD Cert.KernelIdeal.τ).loc Cert.KernelIdeal.main_v20) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_v15) = v1 c
          ∧ r.2.mem ((c.tc : Thread Cert.ReferenceIdeal.nD Cert.ReferenceIdeal.τ).loc Cert.ReferenceIdeal.main_v16) = v2 c
          ∧ r.2.mem ((c.tc : Thread Cert.ReferenceIdeal.nD Cert.ReferenceIdeal.τ).loc Cert.ReferenceIdeal.main_v17) = v3 c
          ∧ r.2.mem ((c.tc : Thread Cert.ReferenceIdeal.nD Cert.ReferenceIdeal.τ).loc Cert.ReferenceIdeal.main_v18) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x1x2048 : Shape := ⟨3, ![128, 1, 2048]⟩
abbrev S128x1x8x64 : Shape := ⟨4, ![128, 1, 8, 64]⟩
abbrev S128x8192x8x64 : Shape := ⟨4, ![128, 8192, 8, 64]⟩
abbrev S128x8192x8 : Shape := ⟨3, ![128, 8192, 8]⟩
abbrev S128x32x64 : Shape := ⟨3, ![128, 32, 64]⟩
abbrev S1x8x64x128 : Shape := ⟨4, ![1, 8, 64, 128]⟩
abbrev S8x64x128 : Shape := ⟨3, ![8, 64, 128]⟩
abbrev S128x8x64x8192 : Shape := ⟨4, ![128, 8, 64, 8192]⟩
abbrev S128x512x8192 : Shape := ⟨3, ![128, 512, 8192]⟩
abbrev S128x8x8192 : Shape := ⟨3, ![128, 8, 8192]⟩
abbrev S8x128 : Shape := ⟨2, ![8, 128]⟩
abbrev S1x32x64 : Shape := ⟨3, ![1, 32, 64]⟩
abbrev S1x512x8192 : Shape := ⟨3, ![1, 512, 8192]⟩
abbrev S1x8x8192 : Shape := ⟨3, ![1, 8, 8192]⟩
abbrev S32x8320 : Shape := ⟨2, ![32, 8320]⟩
abbrev S512x128 : Shape := ⟨2, ![512, 128]⟩
abbrev S8x1x128 : Shape := ⟨3, ![8, 1, 128]⟩
abbrev S1x128 : Shape := ⟨2, ![1, 128]⟩
abbrev S64x128 : Shape := ⟨2, ![64, 128]⟩
abbrev S32x64 : Shape := ⟨2, ![32, 64]⟩
abbrev S32x512 : Shape := ⟨2, ![32, 512]⟩
abbrev S1x512x512 : Shape := ⟨3, ![1, 512, 512]⟩
abbrev S512x512 : Shape := ⟨2, ![512, 512]⟩
abbrev S1x8x512 : Shape := ⟨3, ![1, 8, 512]⟩
abbrev S8x512 : Shape := ⟨2, ![8, 512]⟩
abbrev S1x512 : Shape := ⟨2, ![1, 512]⟩
abbrev S64x512 : Shape := ⟨2, ![64, 512]⟩
abbrev S16x256 : Shape := ⟨2, ![16, 256]⟩
abbrev S256x512 : Shape := ⟨2, ![256, 512]⟩
abbrev S16x512 : Shape := ⟨2, ![16, 512]⟩
abbrev S256x128 : Shape := ⟨2, ![256, 128]⟩
abbrev S16x128 : Shape := ⟨2, ![16, 128]⟩
abbrev S32x128 : Shape := ⟨2, ![32, 128]⟩
abbrev S32 : Shape := ⟨1, ![32]⟩
abbrev S32x1 : Shape := ⟨2, ![32, 1]⟩
abbrev S512x32 : Shape := ⟨2, ![512, 32]⟩
abbrev S64x32 : Shape := ⟨2, ![64, 32]⟩
abbrev S128x8x64 : Shape := ⟨3, ![128, 8, 64]⟩
abbrev S128x8 : Shape := ⟨2, ![128, 8]⟩
abbrev S128x1x8 : Shape := ⟨3, ![128, 1, 8]⟩

abbrev nBuf : Space → Nat
  | .hbm => 32
  | .vmem => 21
  | .smem => 0
  | _ => 0

abbrev bufTy : (tb : Table) → Fin (tcTables nBuf tb) → BufTy
  | .hbm, ⟨0, _⟩ => ⟨S128x1x2048, .bf16⟩
  | .hbm, ⟨1, _⟩ => ⟨S128x1x8x64, .bf16⟩
  | .hbm, ⟨2, _⟩ => ⟨S128x1x8x64, .bf16⟩
  | .hbm, ⟨3, _⟩ => ⟨S128x8192x8x64, .i8⟩
  | .hbm, ⟨4, _⟩ => ⟨S128x8192x8, .f32⟩
  | .hbm, ⟨5, _⟩ => ⟨S128x8192x8x64, .i8⟩
  | .hbm, ⟨6, _⟩ => ⟨S128x8192x8, .f32⟩
  | .hbm, ⟨7, _⟩ => ⟨S128x32x64, .bf16⟩
  | .hbm, ⟨8, _⟩ => ⟨S1x8x64x128, .bf16⟩
  | .hbm, ⟨9, _⟩ => ⟨S8x64x128, .bf16⟩
  | .hbm, ⟨10, _⟩ => ⟨S1x8x64x128, .bf16⟩
  | .hbm, ⟨11, _⟩ => ⟨S8x64x128, .bf16⟩
  | .hbm, ⟨12, _⟩ => ⟨S128x8x64x8192, .i8⟩
  | .hbm, ⟨13, _⟩ => ⟨S128x512x8192, .i8⟩
  | .hbm, ⟨14, _⟩ => ⟨S128x8x8192, .f32⟩
  | .hbm, ⟨15, _⟩ => ⟨S128x8x64x8192, .i8⟩
  | .hbm, ⟨16, _⟩ => ⟨S128x512x8192, .i8⟩
  | .hbm, ⟨17, _⟩ => ⟨S128x8x8192, .f32⟩
  | .hbm, ⟨18, _⟩ => ⟨S128x32x64, .bf16⟩
  | .hbm, ⟨19, _⟩ => ⟨S8x64x128, .i8⟩
  | .hbm, ⟨20, _⟩ => ⟨S8x128, .f32⟩
  | .hbm, ⟨21, _⟩ => ⟨S8x64x128, .i8⟩
  | .hbm, ⟨22, _⟩ => ⟨S8x128, .f32⟩
  | .hbm, ⟨23, _⟩ => ⟨S128x1x2048, .bf16⟩
  | .hbm, ⟨24, _⟩ => ⟨S128x8x64, .i8⟩
  | .hbm, ⟨25, _⟩ => ⟨S128x1x8x64, .i8⟩
  | .hbm, ⟨26, _⟩ => ⟨S128x8, .f32⟩
  | .hbm, ⟨27, _⟩ => ⟨S128x1x8, .f32⟩
  | .hbm, ⟨28, _⟩ => ⟨S128x8x64, .i8⟩
  | .hbm, ⟨29, _⟩ => ⟨S128x1x8x64, .i8⟩
  | .hbm, ⟨30, _⟩ => ⟨S128x8, .f32⟩
  | .hbm, ⟨31, _⟩ => ⟨S128x1x8, .f32⟩
  | .local _ .vmem, ⟨0, _⟩ => ⟨S1x32x64, .bf16⟩
  | .local _ .vmem, ⟨1, _⟩ => ⟨S1x32x64, .bf16⟩
  | .local _ .vmem, ⟨2, _⟩ => ⟨S8x64x128, .bf16⟩
  | .local _ .vmem, ⟨3, _⟩ => ⟨S8x64x128, .bf16⟩
  | .local _ .vmem, ⟨4, _⟩ => ⟨S1x512x8192, .i8⟩
  | .local _ .vmem, ⟨5, _⟩ => ⟨S1x512x8192, .i8⟩
  | .local _ .vmem, ⟨6, _⟩ => ⟨S1x8x8192, .f32⟩
  | .local _ .vmem, ⟨7, _⟩ => ⟨S1x8x8192, .f32⟩
  | .local _ .vmem, ⟨8, _⟩ => ⟨S1x512x8192, .i8⟩
  | .local _ .vmem, ⟨9, _⟩ => ⟨S1x512x8192, .i8⟩
  | .local _ .vmem, ⟨10, _⟩ => ⟨S1x8x8192, .f32⟩
  | .local _ .vmem, ⟨11, _⟩ => ⟨S1x8x8192, .f32⟩
  | .local _ .vmem, ⟨12, _⟩ => ⟨S1x32x64, .bf16⟩
  | .local _ .vmem, ⟨13, _⟩ => ⟨S1x32x64, .bf16⟩
  | .local _ .vmem, ⟨14, _⟩ => ⟨S8x64x128, .i8⟩
  | .local _ .vmem, ⟨15, _⟩ => ⟨S8x128, .f32⟩
  | .local _ .vmem, ⟨16, _⟩ => ⟨S8x64x128, .i8⟩
  | .local _ .vmem, ⟨17, _⟩ => ⟨S8x128, .f32⟩
  | .local _ .vmem, ⟨18, _⟩ => ⟨S32x8320, .f32⟩
  | .local _ .vmem, ⟨19, _⟩ => ⟨S512x128, .bf16⟩
  | .local _ .vmem, ⟨20, _⟩ => ⟨S512x128, .bf16⟩
  | _, _ => ⟨S128x1x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11_0 : Ref sig .tc := ⟨.hbm, 18, rfl⟩
abbrev main_v11_1 : Ref sig .tc := ⟨.hbm, 19, rfl⟩
abbrev main_v11_2 : Ref sig .tc := ⟨.hbm, 20, rfl⟩
abbrev main_v11_3 : Ref sig .tc := ⟨.hbm, 21, rfl⟩
abbrev main_v11_4 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem10_0 : DmaSem sig := 16
abbrev cc0_sem11_0 : DmaSem sig := 17

abbrev nD : Nat := 1
abbrev τ : Topo := Topo.v7x

variable {F : FTy → Type} [FloatOps F]

abbrev grid0 : Pipeline.Grid := ⟨1, ![128], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x32x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x64x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x64x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x512x8192 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8x8192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x8192 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x8x8192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x32x64 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x64x128 .i8 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x64x128 .i8 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== ReferenceIdeal.lean ====
abbrev S128x1x2048 : Shape := ⟨3, ![128, 1, 2048]⟩
abbrev S128x1x8x64 : Shape := ⟨4, ![128, 1, 8, 64]⟩
abbrev S128x8192x8x64 : Shape := ⟨4, ![128, 8192, 8, 64]⟩
abbrev S128x8192x8 : Shape := ⟨3, ![128, 8192, 8]⟩
abbrev S1024x4x64 : Shape := ⟨3, ![1024, 4, 64]⟩
abbrev S128x8x1x64 : Shape := ⟨4, ![128, 8, 1, 64]⟩
abbrev S1024x1x64 : Shape := ⟨3, ![1024, 1, 64]⟩
abbrev S128x8x8192x64 : Shape := ⟨4, ![128, 8, 8192, 64]⟩
abbrev S1024x8192x64 : Shape := ⟨3, ![1024, 8192, 64]⟩
abbrev S128x8x8192 : Shape := ⟨3, ![128, 8, 8192]⟩
abbrev S1024x8192 : Shape := ⟨2, ![1024, 8192]⟩
abbrev S1024x1 : Shape := ⟨2, ![1024, 1]⟩
abbrev S1024x1x1 : Shape := ⟨3, ![1024, 1, 1]⟩
abbrev S1024x8192x1 : Shape := ⟨3, ![1024, 8192, 1]⟩
abbrev S1024x8193x64 : Shape := ⟨3, ![1024, 8193, 64]⟩
abbrev S1024x4x8193 : Shape := ⟨3, ![1024, 4, 8193]⟩
abbrev S1024x4 : Shape := ⟨2, ![1024, 4]⟩
abbrev S1024x4x1 : Shape := ⟨3, ![1024, 4, 1]⟩
abbrev S128x1x8 : Shape := ⟨3, ![128, 1, 8]⟩

abbrev nBuf : Space → Nat
  | .hbm => 30
  | .vmem => 12
  | .smem => 0
  | _ => 0

abbrev bufTy : (tb : Table) → Fin (tcTables nBuf tb) → BufTy
  | .hbm, ⟨0, _⟩ => ⟨S128x1x2048, .bf16⟩
  | .hbm, ⟨1, _⟩ => ⟨S128x1x8x64, .bf16⟩
  | .hbm, ⟨2, _⟩ => ⟨S128x1x8x64, .bf16⟩
  | .hbm, ⟨3, _⟩ => ⟨S128x8192x8x64, .i8⟩
  | .hbm, ⟨4, _⟩ => ⟨S128x8192x8, .f32⟩
  | .hbm, ⟨5, _⟩ => ⟨S128x8192x8x64, .i8⟩
  | .hbm, ⟨6, _⟩ => ⟨S128x8192x8, .f32⟩
  | .hbm, ⟨7, _⟩ => ⟨S1024x4x64, .bf16⟩
  | .hbm, ⟨8, _⟩ => ⟨S128x8x1x64, .bf16⟩
  | .hbm, ⟨9, _⟩ => ⟨S1024x1x64, .bf16⟩
  | .hbm, ⟨10, _⟩ => ⟨S128x8x1x64, .bf16⟩
  | .hbm, ⟨11, _⟩ => ⟨S1024x1x64, .bf16⟩
  | .hbm, ⟨12, _⟩ => ⟨S128x8x8192x64, .i8⟩
  | .hbm, ⟨13, _⟩ => ⟨S1024x8192x64, .i8⟩
  | .hbm, ⟨14, _⟩ => ⟨S128x8x8192, .f32⟩
  | .hbm, ⟨15, _⟩ => ⟨S1024x8192, .f32⟩
  | .hbm, ⟨16, _⟩ => ⟨S128x8x8192x64, .i8⟩
  | .hbm, ⟨17, _⟩ => ⟨S1024x8192x64, .i8⟩
  | .hbm, ⟨18, _⟩ => ⟨S128x8x8192, .f32⟩
  | .hbm, ⟨19, _⟩ => ⟨S1024x8192, .f32⟩
  | .hbm, ⟨20, _⟩ => ⟨S1024x4x64, .bf16⟩
  | .hbm, ⟨21, _⟩ => ⟨S1024x1x64, .i8⟩
  | .hbm, ⟨22, _⟩ => ⟨S1024x1, .f32⟩
  | .hbm, ⟨23, _⟩ => ⟨S1024x1x64, .i8⟩
  | .hbm, ⟨24, _⟩ => ⟨S1024x1, .f32⟩
  | .hbm, ⟨25, _⟩ => ⟨S128x1x2048, .bf16⟩
  | .hbm, ⟨26, _⟩ => ⟨S128x1x8x64, .i8⟩
  | .hbm, ⟨27, _⟩ => ⟨S128x1x8, .f32⟩
  | .hbm, ⟨28, _⟩ => ⟨S128x1x8x64, .i8⟩
  | .hbm, ⟨29, _⟩ => ⟨S128x1x8, .f32⟩
  | .local _ .vmem, ⟨0, _⟩ => ⟨S1024x4x64, .bf16⟩
  | .local _ .vmem, ⟨1, _⟩ => ⟨S1024x1x64, .bf16⟩
  | .local _ .vmem, ⟨2, _⟩ => ⟨S1024x1x64, .bf16⟩
  | .local _ .vmem, ⟨3, _⟩ => ⟨S1024x8192x64, .i8⟩
  | .local _ .vmem, ⟨4, _⟩ => ⟨S1024x8192, .f32⟩
  | .local _ .vmem, ⟨5, _⟩ => ⟨S1024x8192x64, .i8⟩
  | .local _ .vmem, ⟨6, _⟩ => ⟨S1024x8192, .f32⟩
  | .local _ .vmem, ⟨7, _⟩ => ⟨S1024x4x64, .bf16⟩
  | .local _ .vmem, ⟨8, _⟩ => ⟨S1024x1x64, .i8⟩
  | .local _ .vmem, ⟨9, _⟩ => ⟨S1024x1, .f32⟩
  | .local _ .vmem, ⟨10, _⟩ => ⟨S1024x1x64, .i8⟩
  | .local _ .vmem, ⟨11, _⟩ => ⟨S1024x1, .f32⟩
  | _, _ => ⟨S128x1x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13_0 : Ref sig .tc := ⟨.hbm, 20, rfl⟩
abbrev main_v13_1 : Ref sig .tc := ⟨.hbm, 21, rfl⟩
abbrev main_v13_2 : Ref sig .tc := ⟨.hbm, 22, rfl⟩
abbrev main_v13_3 : Ref sig .tc := ⟨.hbm, 23, rfl⟩
abbrev main_v13_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S1024x4x64 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x8192x64 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x8192x64 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024x8192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1024x4x64 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1024x1x64 .i8 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1024x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1024x1x64 .i8 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1024x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Proof.KRunKit.lean ====
module

public import proofs.«01_k».proof.Proof.Gen.KernelIdeal.Frame
public import proofs.«01_k».proof.Proof.Gen.KernelIdeal.Skeleton

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 128 = 0 :=
  (fun t => by
    have ht : t.val < 128 := Nat.lt_of_lt_of_eq t.isLt N_0
    have e0 : (grid0.coords t 0).val = t.val / 1 % 128 := Pipeline.Grid.coords_val t 0 (by decide) rfl
    simp only [cond0_0, k0_cond1, e0]
    word_cmp
   : ∀ t : Fin grid0.N, cond0_0 (grid0.coords t) ↔ t.val % 128 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1x32x64 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x64x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x64x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512x8192 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x8x8192 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x512x8192 .i8 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x8x8192 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x32x64 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S8x64x128 .i8 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S8x128 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S8x64x128 .i8 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S8x128 .f32 := win0_11.stage (cfg0.slots t 11)
abbrev hs0_11 (t : Fin cfg0.N) : (ms0_11 t).IsWhole := hstage0_11 ((cfg0.slots t 11).cast nbuf0_11)
/-- The scratch operands: whole scoped buffers of the kernel's own, passed beside the windows. -/
abbrev scM0_0 : Memref sig .tc .vmem S32x8320 .f32 := Memref.whole cc0_scratch0
abbrev scM0_1 : Memref sig .tc .vmem S512x128 .bf16 := Memref.whole cc0_scratch1
abbrev scM0_2 : Memref sig .tc .vmem S512x128 .bf16 := Memref.whole cc0_scratch2
/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelIdeal.Hand

end
-- ==== Proof.KRunA.lean ====
module

public import proofs.«01_k».proof.Proof.KRunKit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- The first grid point: the body, run over whole buffers, ends with the pieces named here written to each output
    (`L7` … `L11`) and to the two scratch buffers that later points read (`L13`, `L14`); the inputs keep their contents. -/
def runA (c : Dev nD) (i : grid0.Coords) (arg1 : Memref sig .tc .vmem S1x32x64 .bf16) (harg1 : arg1.IsWhole) (arg2 : Memref sig .tc .vmem S8x64x128 .bf16) (harg2 : arg2.IsWhole) (arg3 : Memref sig .tc .vmem S8x64x128 .bf16) (harg3 : arg3.IsWhole) (arg4 : Memref sig .tc .vmem S1x512x8192 .i8) (harg4 : arg4.IsWhole) (arg5 : Memref sig .tc .vmem S1x8x8192 .f32) (harg5 : arg5.IsWhole) (arg6 : Memref sig .tc .vmem S1x512x8192 .i8) (harg6 : arg6.IsWhole) (arg7 : Memref sig .tc .vmem S1x8x8192 .f32) (harg7 : arg7.IsWhole) (arg8 : Memref sig .tc .vmem S1x32x64 .bf16) (harg8 : arg8.IsWhole) (arg9 : Memref sig .tc .vmem S8x64x128 .i8) (harg9 : arg9.IsWhole) (arg10 : Memref sig .tc .vmem S8x128 .f32) (harg10 : arg10.IsWhole) (arg11 : Memref sig .tc .vmem S8x64x128 .i8) (harg11 : arg11.IsWhole) (arg12 : Memref sig .tc .vmem S8x128 .f32) (harg12 : arg12.IsWhole) (arg13 : Memref sig .tc .vmem S32x8320 .f32) (harg13 : arg13.IsWhole) (arg14 : Memref sig .tc .vmem S512x128 .bf16) (harg14 : arg14.IsWhole) (arg15 : Memref sig .tc .vmem S512x128 .bf16) (harg15 : arg15.IsWhole) (hc0 : cond0_0 i)
    (x0 : Vec F S1x32x64 .bf16) (x1 : Vec F S8x64x128 .bf16) (x2 : Vec F S8x64x128 .bf16) (x3 : Vec F S1x512x8192 .i8) (x4 : Vec F S1x8x8192 .f32) (x5 : Vec F S1x512x8192 .i8) (x6 : Vec F S1x8x8192 .f32) :
    Σ' (L7 : List (View.Piece (Elt F) S1x32x64 .bf16)) (L8 : List (View.Piece (Elt F) S8x64x128 .i8)) (L9 : List (View.Piece (Elt F) S8x128 .f32)) (L10 : List (View.Piece (Elt F) S8x64x128 .i8)) (L11 : List (View.Piece (Elt F) S8x128 .f32)) (L13 : List (View.Piece (Elt F) S512x128 .bf16)), { L14 : List (View.Piece (Elt F) S512x128 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ d, owns (c : Thread nD τ) arg13 fullShare d) ∗ (∃ f, arg14.view.loc (c : Thread nD τ) ↦[arg14.view.set]{fullShare} arg14.view.writes (Elt F) f L13) ∗ (∃ f, arg15.view.loc (c : Thread nD τ) ↦[arg15.view.set]{fullShare} arg15.view.writes (Elt F) f L14)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, ?_, ?_, fun E K => ?run⟩
  case run =>
    simp only [cc0__body_eq_skeleton]; unfold cc0__body_skel
    simp only [k0_part49_eq_skeleton, k0_part4_eq_skeleton, k0_part1_eq_skeleton, k0_part2_eq_skeleton, k0_part3_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; iexact H7
    isplitl [H8]
    · iexists _; iexact H8
    isplitl [H9]
    · iexists _; iexact H9
    isplitl [H10]
    · iexists _; iexact H10
    isplitl [H11]
    · iexists _; iexact H11
    isplitl [H12]
    · iexists _, _; isplitr; swap; · iexact H12
      ipureintro; rfl
    isplitl [H13]
    · iexists _; iexact H13
    iexists _; iexact H14

end Cert.KernelIdeal.Hand

end
-- ==== Proof.KStage.lean ====
module

public import proofs.«01_k».proof.Proof.Gen.KernelIdeal.Skeleton
public import Idealize.ShloMosaic.Lib.Pipeline.Value

@[expose] public section

/-! The stages of the kernel's body, each named once: dequantising a chunk of 512 cached positions, its scores, the
    attention over it, the softmax numerators and the final division. The body repeats the first three for sixteen
    chunks; the theorems `score_k` and `attend_k` say that each repetition is the same stage. -/

set_option maxRecDepth 16384

noncomputable section

namespace Cert.KernelIdeal.Hand

open Cert.KernelIdeal Cert.KernelIdeal.Gen
open Idealize.ShloMosaic

variable {F : FTy → Type} [FloatOps F]

/-- One kv head's rows of a dequantised chunk: code times the head's scale at the position. -/
def dqHead (c : IVec S512x512 8) (s : FVec F S8x512 .f32) (o k : ℕ) (ho : S512x512.Slices ![o, 0] S64x512)
    (hk : S8x512.Slices ![k, 0] S1x512) : FVec F S64x512 .bf16 :=
  mulf (sitofp .bf16 (extractStridedSlice S64x512 ![o, 0] c ho))
    (truncf .bf16 (broadcastTo S64x512 (shapeCast S1x512 (extractStridedSlice S1x512 ![k, 0] s hk) shapeCasts_S1x512_S1x512)
      broadcasts_S1x512_S64x512) bitsLt_bf16_f32)

/-- A dequantised chunk of 512 positions: row `64 * head + channel`. -/
def dq (c : Vec F S1x512x512 .i8) (s : Vec F S1x8x512 .f32) : FVec F S512x512 .bf16 :=
  concatenate S512x512 0 [
    ⟨S64x512, dqHead (shapeCast S512x512 c shapeCasts_S1x512x512_S512x512) (shapeCast S8x512 s shapeCasts_S1x8x512_S8x512) 0 0 slices_S512x512_o0_0_S64x512 slices_S8x512_o0_0_S1x512⟩,
    ⟨S64x512, dqHead (shapeCast S512x512 c shapeCasts_S1x512x512_S512x512) (shapeCast S8x512 s shapeCasts_S1x8x512_S8x512) 64 1 slices_S512x512_o64_0_S64x512 slices_S8x512_o1_0_S1x512⟩,
    ⟨S64x512, dqHead (shapeCast S512x512 c shapeCasts_S1x512x512_S512x512) (shapeCast S8x512 s shapeCasts_S1x8x512_S8x512) 128 2 slices_S512x512_o128_0_S64x512 slices_S8x512_o2_0_S1x512⟩,
    ⟨S64x512, dqHead (shapeCast S512x512 c shapeCasts_S1x512x512_S512x512) (shapeCast S8x512 s shapeCasts_S1x8x512_S8x512) 192 3 slices_S512x512_o192_0_S64x512 slices_S8x512_o3_0_S1x512⟩,
    ⟨S64x512, dqHead (shapeCast S512x512 c shapeCasts_S1x512x512_S512x512) (shapeCast S8x512 s shapeCasts_S1x8x512_S8x512) 256 4 slices_S512x512_o256_0_S64x512 slices_S8x512_o4_0_S1x512⟩,
    ⟨S64x512, dqHead (shapeCast S512x512 c shapeCasts_S1x512x512_S512x512) (shapeCast S8x512 s shapeCasts_S1x8x512_S8x512) 320 5 slices_S512x512_o320_0_S64x512 slices_S8x512_o5_0_S1x512⟩,
    ⟨S64x512, dqHead (shapeCast S512x512 c shapeCasts_S1x512x512_S512x512) (shapeCast S8x512 s shapeCasts_S1x8x512_S8x512) 384 6 slices_S512x512_o384_0_S64x512 slices_S8x512_o6_0_S1x512⟩,
    ⟨S64x512, dqHead (shapeCast S512x512 c shapeCasts_S1x512x512_S512x512) (shapeCast S8x512 s shapeCasts_S1x8x512_S8x512) 448 7 slices_S512x512_o448_0_S64x512 slices_S8x512_o7_0_S1x512⟩] concatenates_S64x512_S64x512_S64x512_S64x512_S64x512_S64x512_S64x512_S64x512_S512x512_d0

/-- The scores of 32 query heads against one chunk, `q` laid out block-diagonally over (kv head, channel). -/
def score (q : FVec F S32x512 .bf16) (c : Vec F S1x512x512 .i8) (s : Vec F S1x8x512 .f32) : FVec F S32x512 .f32 :=
  shapeCast S32x512 (mulf (concatenate S32x512 0 [
    ⟨S16x512, matmul dot_S16x256_S256x512_S16x512_1_0_0_1_n_n none (extractStridedSlice S16x256 ![0, 0] q slices_S32x512_o0_0_S16x256)
      (extractStridedSlice S256x512 ![0, 0] (dq c s) slices_S512x512_o0_0_S256x512) (constant S16x512 .f32 0x00000000#32)⟩,
    ⟨S16x512, matmul dot_S16x256_S256x512_S16x512_1_0_0_1_n_n none (extractStridedSlice S16x256 ![16, 256] q slices_S32x512_o16_256_S16x256)
      (extractStridedSlice S256x512 ![256, 0] (dq c s) slices_S512x512_o256_0_S256x512) (constant S16x512 .f32 0x00000000#32)⟩]
    concatenates_S16x512_S16x512_S32x512_d0) (broadcast S32x512 (Scalar.ofBits .f32 0x3E000000#32))) shapeCasts_S32x512_S32x512

/-- One chunk's share of the attention sum, added to what came before. -/
def attend (o : FVec F S512x32 .f32) (p : FVec F S32x8320 .bf16) (off : ℕ) (hp : S32x8320.Slices ![0, off] S32x512)
    (c : Vec F S1x512x512 .i8) (s : Vec F S1x8x512 .f32) : FVec F S512x32 .f32 :=
  addf o (matmul dot_S512x512_S32x512_S512x32_1_1_0_0_n_n none (dq c s) (extractStridedSlice S32x512 ![0, off] p hp)
    (constant S512x32 .f32 0x00000000#32))

/-- The query block laid out block-diagonally. -/
def qbd (x0 : Vec F S1x32x64 .bf16) : FVec F S32x512 .bf16 :=
  k0_pay25 (k0_pay21 x0) (iota Kind.tc S32x512 32 [1] iota_S32x512_d1_w32) k0_pay22 64#32 k0_pay23 k0_pay24 1#1

/-- The last steps: keep each query head's own kv head, sum, transpose, divide by the sum of the numerators. -/
def finish (l : FVec F S32x1 .f32) (o : FVec F S512x32 .f32) : FVec F S32x64 .bf16 :=
  k0_pay279 l (k0_pay277 o (iota Kind.tc S512x32 32 [0] iota_S512x32_d0_w32) (iota Kind.tc S512x32 32 [1] iota_S512x32_d1_w32) 64#32 k0_pay275 k0_pay276 1#32)
    (k0_pay278 o (iota Kind.tc S512x32 32 [0] iota_S512x32_d0_w32) (iota Kind.tc S512x32 32 [1] iota_S512x32_d1_w32) 64#32 k0_pay275 k0_pay276 1#32)

/-- The new keys dequantised, row `64 * head + channel`, one column per sequence. -/
def kNew (x1 : Vec F S8x64x128 .bf16) : FVec F S512x128 .bf16 :=
  k0_pay9 (k0_pay3 x1) (k0_pay5 x1) (k0_pay6 x1) (k0_pay7 x1) (k0_pay8 x1)

/-- The scales of the new values. -/
def vScale (x2 : Vec F S8x64x128 .bf16) : FVec F S8x128 .f32 := k0_pay11 x2

/-- The codes of the new values. -/
def vCode (x2 : Vec F S8x64x128 .bf16) : IVec S8x64x128 8 := k0_pay12 (k0_pay10 x2) (k0_pay11 x2)

/-- The new values dequantised. -/
def vNew (x2 : Vec F S8x64x128 .bf16) : FVec F S512x128 .bf16 :=
  k0_pay20 (k0_pay11 x2) (k0_pay13 (k0_pay10 x2) (k0_pay11 x2)) (k0_pay14 (k0_pay10 x2) (k0_pay11 x2)) (k0_pay15 (k0_pay10 x2) (k0_pay11 x2))
    (k0_pay16 (k0_pay10 x2) (k0_pay11 x2)) (k0_pay17 (k0_pay10 x2) (k0_pay11 x2)) (k0_pay18 (k0_pay10 x2) (k0_pay11 x2)) (k0_pay19 (k0_pay11 x2))

/-- 512 positions of a block of codes. -/
abbrev cAt (x : Vec F S1x512x8192 .i8) (o : ℕ) (h : ∀ a, (![0, 0, o] : Fin 3 → ℕ) a + S1x512x512.size a ≤ S1x512x8192.size a) : Vec F S1x512x512 .i8 :=
  View.ld (Val := Elt F) (e' := .i8) x (Rect.unit (s := S1x512x8192) ![0, 0, o] S1x512x512.size h)

/-- 512 positions of a block of scales. -/
abbrev sAt (x : Vec F S1x8x8192 .f32) (o : ℕ) (h : ∀ a, (![0, 0, o] : Fin 3 → ℕ) a + S1x8x512.size a ≤ S1x8x8192.size a) : Vec F S1x8x512 .f32 :=
  View.ld (Val := Elt F) (e' := .f32) x (Rect.unit (s := S1x8x8192) ![0, 0, o] S1x8x512.size h)

/-- The stores of the scores: sixteen chunks of the cache and the block of new keys. -/
def sPieces (w : BitVec 32) (q : FVec F S32x512 .bf16) (x3 : Vec F S1x512x8192 .i8) (x4 : Vec F S1x8x8192 .f32) (kn : FVec F S512x128 .bf16) :
    List (View.Piece (Elt F) S32x8320 .f32) :=
  [⟨Rect.unit ![0, 8192] S32x128.size inb_S32x8320_S32x128_0_8192, k0_pay152 w q kn⟩,
   ⟨Rect.unit ![0, 7680] S32x512.size inb_S32x8320_S32x512_0_7680, score q (cAt x3 7680 inb_S1x512x8192_S1x512x512_0_0_7680) (sAt x4 7680 inb_S1x8x8192_S1x8x512_0_0_7680)⟩,
   ⟨Rect.unit ![0, 7168] S32x512.size inb_S32x8320_S32x512_0_7168, score q (cAt x3 7168 inb_S1x512x8192_S1x512x512_0_0_7168) (sAt x4 7168 inb_S1x8x8192_S1x8x512_0_0_7168)⟩,
   ⟨Rect.unit ![0, 6656] S32x512.size inb_S32x8320_S32x512_0_6656, score q (cAt x3 6656 inb_S1x512x8192_S1x512x512_0_0_6656) (sAt x4 6656 inb_S1x8x8192_S1x8x512_0_0_6656)⟩,
   ⟨Rect.unit ![0, 6144] S32x512.size inb_S32x8320_S32x512_0_6144, score q (cAt x3 6144 inb_S1x512x8192_S1x512x512_0_0_6144) (sAt x4 6144 inb_S1x8x8192_S1x8x512_0_0_6144)⟩,
   ⟨Rect.unit ![0, 5632] S32x512.size inb_S32x8320_S32x512_0_5632, score q (cAt x3 5632 inb_S1x512x8192_S1x512x512_0_0_5632) (sAt x4 5632 inb_S1x8x8192_S1x8x512_0_0_5632)⟩,
   ⟨Rect.unit ![0, 5120] S32x512.size inb_S32x8320_S32x512_0_5120, score q (cAt x3 5120 inb_S1x512x8192_S1x512x512_0_0_5120) (sAt x4 5120 inb_S1x8x8192_S1x8x512_0_0_5120)⟩,
   ⟨Rect.unit ![0, 4608] S32x512.size inb_S32x8320_S32x512_0_4608, score q (cAt x3 4608 inb_S1x512x8192_S1x512x512_0_0_4608) (sAt x4 4608 inb_S1x8x8192_S1x8x512_0_0_4608)⟩,
   ⟨Rect.unit ![0, 4096] S32x512.size inb_S32x8320_S32x512_0_4096, score q (cAt x3 4096 inb_S1x512x8192_S1x512x512_0_0_4096) (sAt x4 4096 inb_S1x8x8192_S1x8x512_0_0_4096)⟩,
   ⟨Rect.unit ![0, 3584] S32x512.size inb_S32x8320_S32x512_0_3584, score q (cAt x3 3584 inb_S1x512x8192_S1x512x512_0_0_3584) (sAt x4 3584 inb_S1x8x8192_S1x8x512_0_0_3584)⟩,
   ⟨Rect.unit ![0, 3072] S32x512.size inb_S32x8320_S32x512_0_3072, score q (cAt x3 3072 inb_S1x512x8192_S1x512x512_0_0_3072) (sAt x4 3072 inb_S1x8x8192_S1x8x512_0_0_3072)⟩,
   ⟨Rect.unit ![0, 2560] S32x512.size inb_S32x8320_S32x512_0_2560, score q (cAt x3 2560 inb_S1x512x8192_S1x512x512_0_0_2560) (sAt x4 2560 inb_S1x8x8192_S1x8x512_0_0_2560)⟩,
   ⟨Rect.unit ![0, 2048] S32x512.size inb_S32x8320_S32x512_0_2048, score q (cAt x3 2048 inb_S1x512x8192_S1x512x512_0_0_2048) (sAt x4 2048 inb_S1x8x8192_S1x8x512_0_0_2048)⟩,
   ⟨Rect.unit ![0, 1536] S32x512.size inb_S32x8320_S32x512_0_1536, score q (cAt x3 1536 inb_S1x512x8192_S1x512x512_0_0_1536) (sAt x4 1536 inb_S1x8x8192_S1x8x512_0_0_1536)⟩,
   ⟨Rect.unit ![0, 1024] S32x512.size inb_S32x8320_S32x512_0_1024, score q (cAt x3 1024 inb_S1x512x8192_S1x512x512_0_0_1024) (sAt x4 1024 inb_S1x8x8192_S1x8x512_0_0_1024)⟩,
   ⟨Rect.unit ![0, 512] S32x512.size inb_S32x8320_S32x512_0_512, score q (cAt x3 512 inb_S1x512x8192_S1x512x512_0_0_512) (sAt x4 512 inb_S1x8x8192_S1x8x512_0_0_512)⟩,
   ⟨Rect.unit ![0, 0] S32x512.size inb_S32x8320_S32x512_0_0, score q (cAt x3 0 inb_S1x512x8192_S1x512x512_0_0_0) (sAt x4 0 inb_S1x8x8192_S1x8x512_0_0_0)⟩]

/-- The score buffer. -/
def sBuf (w : BitVec 32) (q : FVec F S32x512 .bf16) (x3 : Vec F S1x512x8192 .i8) (x4 : Vec F S1x8x8192 .f32) (kn : FVec F S512x128 .bf16) :
    Vec F S32x8320 .f32 := View.canon (sPieces w q x3 x4 kn)

/-- The attention sums over the new values and the sixteen chunks. -/
def oSum (sb : Vec F S32x8320 .f32) (x5 : Vec F S1x512x8192 .i8) (x6 : Vec F S1x8x8192 .f32) (vn : FVec F S512x128 .bf16) : FVec F S512x32 .f32 :=
  attend (attend (attend (attend (attend (attend (attend (attend (attend (attend (attend (attend (attend (attend (attend (attend (k0_pay156 sb vn) (k0_pay155 sb) 0 slices_S32x8320_o0_0_S32x512
    (cAt x5 0 inb_S1x512x8192_S1x512x512_0_0_0) (sAt x6 0 inb_S1x8x8192_S1x8x512_0_0_0)) (k0_pay155 sb) 512 slices_S32x8320_o0_512_S32x512
    (cAt x5 512 inb_S1x512x8192_S1x512x512_0_0_512) (sAt x6 512 inb_S1x8x8192_S1x8x512_0_0_512)) (k0_pay155 sb) 1024 slices_S32x8320_o0_1024_S32x512
    (cAt x5 1024 inb_S1x512x8192_S1x512x512_0_0_1024) (sAt x6 1024 inb_S1x8x8192_S1x8x512_0_0_1024)) (k0_pay155 sb) 1536 slices_S32x8320_o0_1536_S32x512
    (cAt x5 1536 inb_S1x512x8192_S1x512x512_0_0_1536) (sAt x6 1536 inb_S1x8x8192_S1x8x512_0_0_1536)) (k0_pay155 sb) 2048 slices_S32x8320_o0_2048_S32x512
    (cAt x5 2048 inb_S1x512x8192_S1x512x512_0_0_2048) (sAt x6 2048 inb_S1x8x8192_S1x8x512_0_0_2048)) (k0_pay155 sb) 2560 slices_S32x8320_o0_2560_S32x512
    (cAt x5 2560 inb_S1x512x8192_S1x512x512_0_0_2560) (sAt x6 2560 inb_S1x8x8192_S1x8x512_0_0_2560)) (k0_pay155 sb) 3072 slices_S32x8320_o0_3072_S32x512
    (cAt x5 3072 inb_S1x512x8192_S1x512x512_0_0_3072) (sAt x6 3072 inb_S1x8x8192_S1x8x512_0_0_3072)) (k0_pay155 sb) 3584 slices_S32x8320_o0_3584_S32x512
    (cAt x5 3584 inb_S1x512x8192_S1x512x512_0_0_3584) (sAt x6 3584 inb_S1x8x8192_S1x8x512_0_0_3584)) (k0_pay155 sb) 4096 slices_S32x8320_o0_4096_S32x512
    (cAt x5 4096 inb_S1x512x8192_S1x512x512_0_0_4096) (sAt x6 4096 inb_S1x8x8192_S1x8x512_0_0_4096)) (k0_pay155 sb) 4608 slices_S32x8320_o0_4608_S32x512
    (cAt x5 4608 inb_S1x512x8192_S1x512x512_0_0_4608) (sAt x6 4608 inb_S1x8x8192_S1x8x512_0_0_4608)) (k0_pay155 sb) 5120 slices_S32x8320_o0_5120_S32x512
    (cAt x5 5120 inb_S1x512x8192_S1x512x512_0_0_5120) (sAt x6 5120 inb_S1x8x8192_S1x8x512_0_0_5120)) (k0_pay155 sb) 5632 slices_S32x8320_o0_5632_S32x512
    (cAt x5 5632 inb_S1x512x8192_S1x512x512_0_0_5632) (sAt x6 5632 inb_S1x8x8192_S1x8x512_0_0_5632)) (k0_pay155 sb) 6144 slices_S32x8320_o0_6144_S32x512
    (cAt x5 6144 inb_S1x512x8192_S1x512x512_0_0_6144) (sAt x6 6144 inb_S1x8x8192_S1x8x512_0_0_6144)) (k0_pay155 sb) 6656 slices_S32x8320_o0_6656_S32x512
    (cAt x5 6656 inb_S1x512x8192_S1x512x512_0_0_6656) (sAt x6 6656 inb_S1x8x8192_S1x8x512_0_0_6656)) (k0_pay155 sb) 7168 slices_S32x8320_o0_7168_S32x512
    (cAt x5 7168 inb_S1x512x8192_S1x512x512_0_0_7168) (sAt x6 7168 inb_S1x8x8192_S1x8x512_0_0_7168)) (k0_pay155 sb) 7680 slices_S32x8320_o0_7680_S32x512
    (cAt x5 7680 inb_S1x512x8192_S1x512x512_0_0_7680) (sAt x6 7680 inb_S1x8x8192_S1x8x512_0_0_7680)

/-- What one grid point leaves in its block of the attention output. -/
def yOut (w : BitVec 32) (x0 : Vec F S1x32x64 .bf16) (x3 : Vec F S1x512x8192 .i8) (x4 : Vec F S1x8x8192 .f32) (x5 : Vec F S1x512x8192 .i8)
    (x6 : Vec F S1x8x8192 .f32) (kn vn : FVec F S512x128 .bf16) : Vec F S1x32x64 .bf16 :=
  k0_pay1 (finish (k0_pay154 (sBuf w (qbd x0) x3 x4 kn)) (oSum (sBuf w (qbd x0) x3 x4 kn) x5 x6 vn))

/-- The scores of chunk 0 are the common stage. -/
theorem score_0 (q : FVec F S32x512 .bf16) (c : Vec F S1x512x512 .i8) (s : Vec F S1x8x512 .f32) :
    k0_pay33 q (k0_pay26 c) (k0_pay27 s) (k0_pay28 c s) (k0_pay29 c s) (k0_pay30 c s) (k0_pay31 c s) (k0_pay32 s) = score q c s := rfl

/-- The scores of chunk 1 are the common stage. -/
theorem score_1 (q : FVec F S32x512 .bf16) (c : Vec F S1x512x512 .i8) (s : Vec F S1x8x512 .f32) :
    k0_pay41 (k0_pay38 q (k0_pay34 c) (k0_pay35 s) (k0_pay36 s)) (k0_pay39 q) (k0_pay40 (k0_pay34 c) (k0_pay35 s) (k0_pay36 s)) (constant S16x512 .f32 0x00000000#32) = score q c s := rfl

/-- The scores of chunk 2 are the common stage. -/
theorem score_2 (q : FVec F S32x512 .bf16) (c : Vec F S1x512x512 .i8) (s : Vec F S1x8x512 .f32) :
    k0_pay50 q (k0_pay42 c) (k0_pay43 s) (k0_pay44 c s) (k0_pay45 c s) (k0_pay46 c s) (k0_pay47 c s) (k0_pay48 c s) (k0_pay49 s) = score q c s := rfl

/-- The scores of chunk 3 are the common stage. -/
theorem score_3 (q : FVec F S32x512 .bf16) (c : Vec F S1x512x512 .i8) (s : Vec F S1x8x512 .f32) :
    k0_pay55 q (k0_pay51 c) (k0_pay52 s) (k0_pay53 c s) (k0_pay54 c s) = score q c s := rfl

/-- The scores of chunk 4 are the common stage. -/
theorem score_4 (q : FVec F S32x512 .bf16) (c : Vec F S1x512x512 .i8) (s : Vec F S1x8x512 .f32) :
    k0_pay65 q (k0_pay56 c) (k0_pay57 s) (k0_pay58 c s) (k0_pay59 c s) (k0_pay60 c s) (k0_pay61 c s) (k0_pay62 c s) (k0_pay63 c s) (k0_pay64 c s) = score q c s := rfl

/-- The scores of chunk 5 are the common stage. -/
theorem score_5 (q : FVec F S32x512 .bf16) (c : Vec F S1x512x512 .i8) (s : Vec F S1x8x512 .f32) :
    k0_pay72 q (k0_pay66 c) (k0_pay67 s) (k0_pay68 c s) (k0_pay69 c s) (k0_pay70 c s) (k0_pay71 s) = score q c s := rfl

/-- The scores of chunk 6 are the common stage. -/
theorem score_6 (q : FVec F S32x512 .bf16) (c : Vec F S1x512x512 .i8) (s : Vec F S1x8x512 .f32) :
    k0_pay77 q (k0_pay74 (k0_pay73 c) s) (k0_pay75 q) (k0_pay76 (k0_pay73 c) s) = score q c s := rfl

/-- The scores of chunk 7 are the common stage. -/
theorem score_7 (q : FVec F S32x512 .bf16) (c : Vec F S1x512x512 .i8) (s : Vec F S1x8x512 .f32) :
    k0_pay86 q (k0_pay78 c) (k0_pay79 s) (k0_pay80 c s) (k0_pay81 c s) (k0_pay82 c s) (k0_pay83 c s) (k0_pay84 s) (k0_pay85 c) = score q c s := rfl

/-- The scores of chunk 8 are the common stage. -/
theorem score_8 (q : FVec F S32x512 .bf16) (c : Vec F S1x512x512 .i8) (s : Vec F S1x8x512 .f32) :
    k0_pay92 (k0_pay91 q (k0_pay87 c) (k0_pay88 s) (k0_pay89 c s) (k0_pay90 s)) = score q c s := rfl

/-- The scores of chunk 9 are the common stage. -/
theorem score_9 (q : FVec F S32x512 .bf16) (c : Vec F S1x512x512 .i8) (s : Vec F S1x8x512 .f32) :
    k0_pay102 q (k0_pay93 c) (k0_pay94 s) (k0_pay95 c s) (k0_pay96 c s) (k0_pay97 c s) (k0_pay98 c s) (k0_pay99 c s) (k0_pay100 c s) (k0_pay101 s) = score q c s := rfl

/-- The scores of chunk 10 are the common stage. -/
theorem score_10 (q : FVec F S32x512 .bf16) (c : Vec F S1x512x512 .i8) (s : Vec F S1x8x512 .f32) :
    k0_pay109 q (k0_pay103 c) (k0_pay104 s) (k0_pay105 c s) (k0_pay106 c s) (k0_pay107 s) (k0_pay108 c) = score q c s := rfl

/-- The scores of chunk 11 are the common stage. -/
theorem score_11 (q : FVec F S32x512 .bf16) (c : Vec F S1x512x512 .i8) (s : Vec F S1x8x512 .f32) :
    k0_pay121 q (k0_pay112 c s) (k0_pay113 c s) (k0_pay114 c s) (k0_pay115 c s) (k0_pay116 c s) (k0_pay117 c s) (k0_pay118 c s) (k0_pay119 s) (k0_pay120 c) = score q c s := rfl

/-- The scores of chunk 12 are the common stage. -/
theorem score_12 (q : FVec F S32x512 .bf16) (c : Vec F S1x512x512 .i8) (s : Vec F S1x8x512 .f32) :
    k0_pay129 q (k0_pay122 c) (k0_pay123 s) (k0_pay124 c s) (k0_pay125 c s) (k0_pay126 c s) (k0_pay127 c s) (k0_pay128 s) = score q c s := rfl

/-- The scores of chunk 13 are the common stage. -/
theorem score_13 (q : FVec F S32x512 .bf16) (c : Vec F S1x512x512 .i8) (s : Vec F S1x8x512 .f32) :
    k0_pay137 (k0_pay134 q (k0_pay130 c) (k0_pay131 s) (k0_pay132 s)) (k0_pay135 q) (k0_pay136 (k0_pay130 c) (k0_pay131 s) (k0_pay132 s)) (constant S16x512 .f32 0x00000000#32) = score q c s := rfl

/-- The scores of chunk 14 are the common stage. -/
theorem score_14 (q : FVec F S32x512 .bf16) (c : Vec F S1x512x512 .i8) (s : Vec F S1x8x512 .f32) :
    k0_pay146 q (k0_pay138 c) (k0_pay139 s) (k0_pay140 c s) (k0_pay141 c s) (k0_pay142 c s) (k0_pay143 c s) (k0_pay144 c s) (k0_pay145 s) = score q c s := rfl

/-- The scores of chunk 15 are the common stage. -/
theorem score_15 (q : FVec F S32x512 .bf16) (c : Vec F S1x512x512 .i8) (s : Vec F S1x8x512 .f32) :
    k0_pay151 q (k0_pay147 c) (k0_pay148 s) (k0_pay149 c s) (k0_pay150 c s) = score q c s := rfl

/-- The attention over chunk 0 is the common stage. -/
theorem attend_0 (o : FVec F S512x32 .f32) (p : FVec F S32x8320 .bf16) (c : Vec F S1x512x512 .i8) (s : Vec F S1x8x512 .f32) :
    k0_pay160 p o (k0_pay157 c) (k0_pay158 s) (k0_pay159 s) = attend o p 0 slices_S32x8320_o0_0_S32x512 c s := rfl

/-- The attention over chunk 1 is the common stage. -/
theorem attend_1 (o : FVec F S512x32 .f32) (p : FVec F S32x8320 .bf16) (c : Vec F S1x512x512 .i8) (s : Vec F S1x8x512 .f32) :
    k0_pay171 p o (k0_pay161 c) (k0_pay163 c s) (k0_pay164 c s) (k0_pay165 c s) (k0_pay166 c s) (k0_pay167 c s) (k0_pay168 c s) (k0_pay169 c s) (k0_pay170 s) = attend o p 512 slices_S32x8320_o0_512_S32x512 c s := rfl

/-- The attention over chunk 2 is the common stage. -/
theorem attend_2 (o : FVec F S512x32 .f32) (p : FVec F S32x8320 .bf16) (c : Vec F S1x512x512 .i8) (s : Vec F S1x8x512 .f32) :
    k0_pay181 p o (k0_pay172 c) (k0_pay173 s) (k0_pay174 c s) (k0_pay175 c s) (k0_pay176 c s) (k0_pay177 c s) (k0_pay178 c s) (k0_pay179 s) (k0_pay180 c) = attend o p 1024 slices_S32x8320_o0_1024_S32x512 c s := rfl

/-- The attention over chunk 3 is the common stage. -/
theorem attend_3 (o : FVec F S512x32 .f32) (p : FVec F S32x8320 .bf16) (c : Vec F S1x512x512 .i8) (s : Vec F S1x8x512 .f32) :
    k0_pay189 p o (k0_pay182 c) (k0_pay183 s) (k0_pay184 c s) (k0_pay185 c s) (k0_pay186 c s) (k0_pay187 c s) (k0_pay188 s) = attend o p 1536 slices_S32x8320_o0_1536_S32x512 c s := rfl

/-- The attention over chunk 4 is the common stage. -/
theorem attend_4 (o : FVec F S512x32 .f32) (p : FVec F S32x8320 .bf16) (c : Vec F S1x512x512 .i8) (s : Vec F S1x8x512 .f32) :
    k0_pay196 p o (k0_pay190 c) (k0_pay191 s) (k0_pay192 c s) (k0_pay193 c s) (k0_pay194 s) (k0_pay195 c) = attend o p 2048 slices_S32x8320_o0_2048_S32x512 c s := rfl

/-- The attention over chunk 5 is the common stage. -/
theorem attend_5 (o : FVec F S512x32 .f32) (p : FVec F S32x8320 .bf16) (c : Vec F S1x512x512 .i8) (s : Vec F S1x8x512 .f32) :
    k0_pay201 p o (k0_pay197 c) (k0_pay198 s) (k0_pay199 c s) (k0_pay200 s) = attend o p 2560 slices_S32x8320_o0_2560_S32x512 c s := rfl

/-- The attention over chunk 6 is the common stage. -/
theorem attend_6 (o : FVec F S512x32 .f32) (p : FVec F S32x8320 .bf16) (c : Vec F S1x512x512 .i8) (s : Vec F S1x8x512 .f32) :
    k0_pay204 p o (k0_pay203 (k0_pay202 c) s) = attend o p 3072 slices_S32x8320_o0_3072_S32x512 c s := rfl

/-- The attention over chunk 7 is the common stage. -/
theorem attend_7 (o : FVec F S512x32 .f32) (p : FVec F S32x8320 .bf16) (c : Vec F S1x512x512 .i8) (s : Vec F S1x8x512 .f32) :
    k0_pay214 p o (k0_pay205 c) (k0_pay206 s) (k0_pay207 c s) (k0_pay208 c s) (k0_pay209 c s) (k0_pay210 c s) (k0_pay211 c s) (k0_pay212 c s) (k0_pay213 s) = attend o p 3584 slices_S32x8320_o0_3584_S32x512 c s := rfl

/-- The attention over chunk 8 is the common stage. -/
theorem attend_8 (o : FVec F S512x32 .f32) (p : FVec F S32x8320 .bf16) (c : Vec F S1x512x512 .i8) (s : Vec F S1x8x512 .f32) :
    k0_pay222 p o (k0_pay215 c) (k0_pay216 s) (k0_pay217 c s) (k0_pay218 c s) (k0_pay219 c s) (k0_pay220 c s) (k0_pay221 c s) = attend o p 4096 slices_S32x8320_o0_4096_S32x512 c s := rfl

/-- The attention over chunk 9 is the common stage. -/
theorem attend_9 (o : FVec F S512x32 .f32) (p : FVec F S32x8320 .bf16) (c : Vec F S1x512x512 .i8) (s : Vec F S1x8x512 .f32) :
    k0_pay229 p o (k0_pay223 c) (k0_pay224 s) (k0_pay225 c s) (k0_pay226 c s) (k0_pay227 c s) (k0_pay228 s) = attend o p 4608 slices_S32x8320_o0_4608_S32x512 c s := rfl

/-- The attention over chunk 10 is the common stage. -/
theorem attend_10 (o : FVec F S512x32 .f32) (p : FVec F S32x8320 .bf16) (c : Vec F S1x512x512 .i8) (s : Vec F S1x8x512 .f32) :
    k0_pay235 p o (k0_pay230 c) (k0_pay231 s) (k0_pay232 c s) (k0_pay233 s) (k0_pay234 c) = attend o p 5120 slices_S32x8320_o0_5120_S32x512 c s := rfl

/-- The attention over chunk 11 is the common stage. -/
theorem attend_11 (o : FVec F S512x32 .f32) (p : FVec F S32x8320 .bf16) (c : Vec F S1x512x512 .i8) (s : Vec F S1x8x512 .f32) :
    k0_pay239 p o (k0_pay236 c) (k0_pay237 s) (k0_pay238 s) = attend o p 5632 slices_S32x8320_o0_5632_S32x512 c s := rfl

/-- The attention over chunk 12 is the common stage. -/
theorem attend_12 (o : FVec F S512x32 .f32) (p : FVec F S32x8320 .bf16) (c : Vec F S1x512x512 .i8) (s : Vec F S1x8x512 .f32) :
    k0_pay250 p o (k0_pay240 c) (k0_pay242 c s) (k0_pay243 c s) (k0_pay244 c s) (k0_pay245 c s) (k0_pay246 c s) (k0_pay247 c s) (k0_pay248 c s) (k0_pay249 s) = attend o p 6144 slices_S32x8320_o0_6144_S32x512 c s := rfl

/-- The attention over chunk 13 is the common stage. -/
theorem attend_13 (o : FVec F S512x32 .f32) (p : FVec F S32x8320 .bf16) (c : Vec F S1x512x512 .i8) (s : Vec F S1x8x512 .f32) :
    k0_pay260 p o (k0_pay251 c) (k0_pay252 s) (k0_pay253 c s) (k0_pay254 c s) (k0_pay255 c s) (k0_pay256 c s) (k0_pay257 c s) (k0_pay258 s) (k0_pay259 c) = attend o p 6656 slices_S32x8320_o0_6656_S32x512 c s := rfl

/-- The attention over chunk 14 is the common stage. -/
theorem attend_14 (o : FVec F S512x32 .f32) (p : FVec F S32x8320 .bf16) (c : Vec F S1x512x512 .i8) (s : Vec F S1x8x512 .f32) :
    k0_pay268 p o (k0_pay261 c) (k0_pay262 s) (k0_pay263 c s) (k0_pay264 c s) (k0_pay265 c s) (k0_pay266 c s) (k0_pay267 s) = attend o p 7168 slices_S32x8320_o0_7168_S32x512 c s := rfl

/-- The attention over chunk 15 is the common stage. -/
theorem attend_15 (o : FVec F S512x32 .f32) (p : FVec F S32x8320 .bf16) (c : Vec F S1x512x512 .i8) (s : Vec F S1x8x512 .f32) :
    k0_pay274 p o (k0_pay269 c) (k0_pay270 s) (k0_pay271 c s) (k0_pay272 c s) (k0_pay273 s) = attend o p 7680 slices_S32x8320_o0_7680_S32x512 c s := rfl

end Cert.KernelIdeal.Hand

end
-- ==== Proof.KFold.lean ====
module

public import proofs.«01_k».proof.Proof.KRunKit
public import proofs.«01_k».proof.Proof.KStage

@[expose] public section

/-! The two runs of the body, read as the named stages: the first grid point (`runA`) and every later one (`runB`). -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A load through a whole buffer held at `X` reads `X` through the rectangle. -/
theorem readAt_whole {cs : Space} {s : Shape} {e : EltTy} {mm : Memref sig .tc cs s e} (h : mm.IsWhole) (X : s.Idx → Elt F e) (r : Rect s) :
    View.readAt (Elt F) mm.view r.toLoadRect (h.unread X) = View.ld X r := by
  funext x
  exact congrFun (h.read_unread X) _

theorem ld_full_q {e : EltTy} (X : Vec F S1x32x64 e) : View.ld X (Rect.unit (s := S1x32x64) ![0, 0, 0] (no_index S1x32x64.size) inb_S1x32x64_S1x32x64_0_0_0) = X :=
  View.ld_unit_zero (by decide) _ X

theorem ld_full_n {e : EltTy} (X : Vec F S8x64x128 e) : View.ld X (Rect.unit (s := S8x64x128) ![0, 0, 0] (no_index S8x64x128.size) inb_S8x64x128_S8x64x128_0_0_0) = X :=
  View.ld_unit_zero (by decide) _ X

theorem ld_full_d {e : EltTy} (X : Vec F S512x128 e) : View.ld X (Rect.unit (s := S512x128) ![0, 0] (no_index S512x128.size) inb_S512x128_S512x128_0_0) = X :=
  View.ld_unit_zero (by decide) _ X

theorem ld_full_s {e : EltTy} (X : Vec F S32x8320 e) : View.ld X (Rect.unit (s := S32x8320) ![0, 0] (no_index S32x8320.size) inb_S32x8320_S32x8320_0_0) = X :=
  View.ld_unit_zero (by decide) _ X

theorem readCov_full_d {sg : RefSig} {κ : Kind} {sp : Space} {e : EltTy} (v : View sg κ sp S512x128 e) (w : Vec F S512x128 e) :
    v.readCov [(⟨Rect.unit (s := S512x128) ![0, 0] (no_index S512x128.size) inb_S512x128_S512x128_0_0, w⟩ : View.Piece (Elt F) S512x128 e)] (Rect.unit (s := S512x128) ![0, 0] (no_index S512x128.size) inb_S512x128_S512x128_0_0).toLoadRect = w :=
  View.readCov_unit_zero v (by decide) _ w

/-- The whole score buffer read after its stores. -/
theorem readCov_s {sg : RefSig} {κ : Kind} {sp : Space} {e : EltTy} (v : View sg κ sp S32x8320 e) (L : List (View.Piece (Elt F) S32x8320 e)) :
    v.readCov L (Rect.unit (s := S32x8320) ![0, 0] S32x8320.size inb_S32x8320_S32x8320_0_0).toLoadRect = View.canon L := by
  rw [View.readCov_eq_canon']
  exact ld_full_s (F := F) (View.canon L)

theorem qbd_fold (x0 : Vec F S1x32x64 .bf16) :
    k0_pay25 (k0_pay21 x0) (iota Kind.tc S32x512 32 [1] iota_S32x512_d1_w32) k0_pay22 64#32 k0_pay23 k0_pay24 1#1 = qbd x0 := rfl
theorem finish_fold (l : FVec F S32x1 .f32) (o : FVec F S512x32 .f32) :
    k0_pay279 l (k0_pay277 o (iota Kind.tc S512x32 32 [0] iota_S512x32_d0_w32) (iota Kind.tc S512x32 32 [1] iota_S512x32_d1_w32) 64#32 k0_pay275 k0_pay276 1#32)
    (k0_pay278 o (iota Kind.tc S512x32 32 [0] iota_S512x32_d0_w32) (iota Kind.tc S512x32 32 [1] iota_S512x32_d1_w32) 64#32 k0_pay275 k0_pay276 1#32) = finish l o := rfl
theorem kNew_fold (x1 : Vec F S8x64x128 .bf16) : k0_pay9 (k0_pay3 x1) (k0_pay5 x1) (k0_pay6 x1) (k0_pay7 x1) (k0_pay8 x1) = kNew x1 := rfl
theorem vNew_fold (x2 : Vec F S8x64x128 .bf16) :
    k0_pay20 (k0_pay11 x2) (k0_pay13 (k0_pay10 x2) (k0_pay11 x2)) (k0_pay14 (k0_pay10 x2) (k0_pay11 x2)) (k0_pay15 (k0_pay10 x2) (k0_pay11 x2))
    (k0_pay16 (k0_pay10 x2) (k0_pay11 x2)) (k0_pay17 (k0_pay10 x2) (k0_pay11 x2)) (k0_pay18 (k0_pay10 x2) (k0_pay11 x2)) (k0_pay19 (k0_pay11 x2)) = vNew x2 := rfl

end Cert.KernelIdeal.Hand

end
-- ==== Proof.KReadA.lean ====
module

public import proofs.«01_k».proof.Proof.KRunA
public import proofs.«01_k».proof.Proof.KFold

@[expose] public section

/-! The two runs of the body, read as the named stages: the first grid point (`runA`) and every later one (`runB`). -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000

variable  (c : Dev nD) (i : grid0.Coords) (arg1 : Memref sig .tc .vmem S1x32x64 .bf16) (harg1 : arg1.IsWhole) (arg2 : Memref sig .tc .vmem S8x64x128 .bf16) (harg2 : arg2.IsWhole) (arg3 : Memref sig .tc .vmem S8x64x128 .bf16) (harg3 : arg3.IsWhole) (arg4 : Memref sig .tc .vmem S1x512x8192 .i8) (harg4 : arg4.IsWhole) (arg5 : Memref sig .tc .vmem S1x8x8192 .f32) (harg5 : arg5.IsWhole) (arg6 : Memref sig .tc .vmem S1x512x8192 .i8) (harg6 : arg6.IsWhole) (arg7 : Memref sig .tc .vmem S1x8x8192 .f32) (harg7 : arg7.IsWhole) (arg8 : Memref sig .tc .vmem S1x32x64 .bf16) (harg8 : arg8.IsWhole) (arg9 : Memref sig .tc .vmem S8x64x128 .i8) (harg9 : arg9.IsWhole) (arg10 : Memref sig .tc .vmem S8x128 .f32) (harg10 : arg10.IsWhole) (arg11 : Memref sig .tc .vmem S8x64x128 .i8) (harg11 : arg11.IsWhole) (arg12 : Memref sig .tc .vmem S8x128 .f32) (harg12 : arg12.IsWhole) (arg13 : Memref sig .tc .vmem S32x8320 .f32) (harg13 : arg13.IsWhole) (arg14 : Memref sig .tc .vmem S512x128 .bf16) (harg14 : arg14.IsWhole) (arg15 : Memref sig .tc .vmem S512x128 .bf16) (harg15 : arg15.IsWhole) (hc0 : cond0_0 i)
    (x0 : Vec F S1x32x64 .bf16) (x1 : Vec F S8x64x128 .bf16) (x2 : Vec F S8x64x128 .bf16) (x3 : Vec F S1x512x8192 .i8) (x4 : Vec F S1x8x8192 .f32) (x5 : Vec F S1x512x8192 .i8) (x6 : Vec F S1x8x8192 .f32)

/-- The query word is the block-diagonal query. -/
theorem runA_q : (runA.sl.r_15 c arg1 harg1 x0) = qbd x0 := by
  simp only [runA.sl.r_15, runA.sl.r_14, runA.sl.v7, readAt_whole, ld_full_q]
  rfl

/-- The store of chunk 0 holds its scores. -/
theorem runA_score_0 : k0_pay33 (runA.sl.r_15 c arg1 harg1 x0) (runA.sl.r_16 c arg4 harg4 x3) (runA.sl.r_17 c arg5 harg5 x4) (runA.sl.r_18 c arg4 harg4 arg5 harg5 x3 x4) (runA.sl.r_19 c arg4 harg4 arg5 harg5 x3 x4) (runA.sl.r_20 c arg4 harg4 arg5 harg5 x3 x4) (runA.sl.r_21 c arg4 harg4 arg5 harg5 x3 x4) (runA.sl.r_22 c arg5 harg5 x4) = score (runA.sl.r_15 c arg1 harg1 x0) (cAt x3 0 inb_S1x512x8192_S1x512x512_0_0_0) (sAt x4 0 inb_S1x8x8192_S1x8x512_0_0_0) := by
  simp only [runA.sl.r_16, runA.sl.r_17, runA.sl.r_18, runA.sl.r_19, runA.sl.r_20, runA.sl.r_21, runA.sl.r_22, readAt_whole]
  exact score_0 _ _ _

/-- The store of chunk 1 holds its scores. -/
theorem runA_score_1 : k0_pay41 (runA.sl.r_26 c arg1 harg1 arg4 harg4 arg5 harg5 x0 x3 x4) (runA.sl.r_27 c arg1 harg1 x0) (runA.sl.r_28 c arg4 harg4 arg5 harg5 x3 x4) runA.sl.cst_31 = score (runA.sl.r_15 c arg1 harg1 x0) (cAt x3 512 inb_S1x512x8192_S1x512x512_0_0_512) (sAt x4 512 inb_S1x8x8192_S1x8x512_0_0_512) := by
  simp only [runA.sl.r_26, runA.sl.r_23, runA.sl.r_24, runA.sl.r_25, runA.sl.r_27, runA.sl.r_28, runA.sl.cst_31, readAt_whole]
  exact score_1 _ _ _

/-- The store of chunk 2 holds its scores. -/
theorem runA_score_2 : k0_pay50 (runA.sl.r_15 c arg1 harg1 x0) (runA.sl.r_29 c arg4 harg4 x3) (runA.sl.r_30 c arg5 harg5 x4) (runA.sl.r_31 c arg4 harg4 arg5 harg5 x3 x4) (runA.sl.r_32 c arg4 harg4 arg5 harg5 x3 x4) (runA.sl.r_33 c arg4 harg4 arg5 harg5 x3 x4) (runA.sl.r_34 c arg4 harg4 arg5 harg5 x3 x4) (runA.sl.r_35 c arg4 harg4 arg5 harg5 x3 x4) (runA.sl.r_36 c arg5 harg5 x4) = score (runA.sl.r_15 c arg1 harg1 x0) (cAt x3 1024 inb_S1x512x8192_S1x512x512_0_0_1024) (sAt x4 1024 inb_S1x8x8192_S1x8x512_0_0_1024) := by
  simp only [runA.sl.r_29, runA.sl.r_30, runA.sl.r_31, runA.sl.r_32, runA.sl.r_33, runA.sl.r_34, runA.sl.r_35, runA.sl.r_36, readAt_whole]
  exact score_2 _ _ _

/-- The store of chunk 3 holds its scores. -/
theorem runA_score_3 : runA.sl.r_41 c arg1 harg1 arg4 harg4 arg5 harg5 x0 x3 x4 = score (runA.sl.r_15 c arg1 harg1 x0) (cAt x3 1536 inb_S1x512x8192_S1x512x512_0_0_1536) (sAt x4 1536 inb_S1x8x8192_S1x8x512_0_0_1536) := by
  simp only [runA.sl.r_41, runA.sl.r_37, runA.sl.r_38, runA.sl.r_39, runA.sl.r_40, readAt_whole]
  exact score_3 _ _ _

/-- The store of chunk 4 holds its scores. -/
theorem runA_score_4 : k0_pay65 (runA.sl.r_15 c arg1 harg1 x0) (runA.sl.r_42 c arg4 harg4 x3) (runA.sl.r_43 c arg5 harg5 x4) (runA.sl.r_44 c arg4 harg4 arg5 harg5 x3 x4) (runA.sl.r_45 c arg4 harg4 arg5 harg5 x3 x4) (runA.sl.r_46 c arg4 harg4 arg5 harg5 x3 x4) (runA.sl.r_47 c arg4 harg4 arg5 harg5 x3 x4) (runA.sl.r_48 c arg4 harg4 arg5 harg5 x3 x4) (runA.sl.r_49 c arg4 harg4 arg5 harg5 x3 x4) (runA.sl.r_50 c arg4 harg4 arg5 harg5 x3 x4) = score (runA.sl.r_15 c arg1 harg1 x0) (cAt x3 2048 inb_S1x512x8192_S1x512x512_0_0_2048) (sAt x4 2048 inb_S1x8x8192_S1x8x512_0_0_2048) := by
  simp only [runA.sl.r_42, runA.sl.r_43, runA.sl.r_44, runA.sl.r_45, runA.sl.r_46, runA.sl.r_47, runA.sl.r_48, runA.sl.r_49, runA.sl.r_50, readAt_whole]
  exact score_4 _ _ _

/-- The store of chunk 5 holds its scores. -/
theorem runA_score_5 : k0_pay72 (runA.sl.r_15 c arg1 harg1 x0) (runA.sl.r_51 c arg4 harg4 x3) (runA.sl.r_52 c arg5 harg5 x4) (runA.sl.r_53 c arg4 harg4 arg5 harg5 x3 x4) (runA.sl.r_54 c arg4 harg4 arg5 harg5 x3 x4) (runA.sl.r_55 c arg4 harg4 arg5 harg5 x3 x4) (runA.sl.r_56 c arg5 harg5 x4) = score (runA.sl.r_15 c arg1 harg1 x0) (cAt x3 2560 inb_S1x512x8192_S1x512x512_0_0_2560) (sAt x4 2560 inb_S1x8x8192_S1x8x512_0_0_2560) := by
  simp only [runA.sl.r_51, runA.sl.r_52, runA.sl.r_53, runA.sl.r_54, runA.sl.r_55, runA.sl.r_56, readAt_whole]
  exact score_5 _ _ _

/-- The store of chunk 6 holds its scores. -/
theorem runA_score_6 : k0_pay77 (runA.sl.r_15 c arg1 harg1 x0) (runA.sl.r_59 c arg4 harg4 arg5 harg5 x3 x4) (runA.sl.r_60 c arg1 harg1 x0) (runA.sl.r_61 c arg4 harg4 arg5 harg5 x3 x4) = score (runA.sl.r_15 c arg1 harg1 x0) (cAt x3 3072 inb_S1x512x8192_S1x512x512_0_0_3072) (sAt x4 3072 inb_S1x8x8192_S1x8x512_0_0_3072) := by
  simp only [runA.sl.r_59, runA.sl.r_57, runA.sl.r_58, runA.sl.r_60, runA.sl.r_61, readAt_whole]
  exact score_6 _ _ _

/-- The store of chunk 7 holds its scores. -/
theorem runA_score_7 : k0_pay86 (runA.sl.r_15 c arg1 harg1 x0) (runA.sl.r_62 c arg4 harg4 x3) (runA.sl.r_63 c arg5 harg5 x4) (runA.sl.r_64 c arg4 harg4 arg5 harg5 x3 x4) (runA.sl.r_65 c arg4 harg4 arg5 harg5 x3 x4) (runA.sl.r_66 c arg4 harg4 arg5 harg5 x3 x4) (runA.sl.r_67 c arg4 harg4 arg5 harg5 x3 x4) (runA.sl.r_68 c arg5 harg5 x4) (runA.sl.r_69 c arg4 harg4 x3) = score (runA.sl.r_15 c arg1 harg1 x0) (cAt x3 3584 inb_S1x512x8192_S1x512x512_0_0_3584) (sAt x4 3584 inb_S1x8x8192_S1x8x512_0_0_3584) := by
  simp only [runA.sl.r_62, runA.sl.r_63, runA.sl.r_64, runA.sl.r_65, runA.sl.r_66, runA.sl.r_67, runA.sl.r_68, runA.sl.r_69, readAt_whole]
  exact score_7 _ _ _

/-- The store of chunk 8 holds its scores. -/
theorem runA_score_8 : k0_pay92 (runA.sl.r_74 c arg1 harg1 arg4 harg4 arg5 harg5 x0 x3 x4) = score (runA.sl.r_15 c arg1 harg1 x0) (cAt x3 4096 inb_S1x512x8192_S1x512x512_0_0_4096) (sAt x4 4096 inb_S1x8x8192_S1x8x512_0_0_4096) := by
  simp only [runA.sl.r_74, runA.sl.r_70, runA.sl.r_71, runA.sl.r_72, runA.sl.r_73, readAt_whole]
  exact score_8 _ _ _

/-- The store of chunk 9 holds its scores. -/
theorem runA_score_9 : k0_pay102 (runA.sl.r_15 c arg1 harg1 x0) (runA.sl.r_75 c arg4 harg4 x3) (runA.sl.r_76 c arg5 harg5 x4) (runA.sl.r_77 c arg4 harg4 arg5 harg5 x3 x4) (runA.sl.r_78 c arg4 harg4 arg5 harg5 x3 x4) (runA.sl.r_79 c arg4 harg4 arg5 harg5 x3 x4) (runA.sl.r_80 c arg4 harg4 arg5 harg5 x3 x4) (runA.sl.r_81 c arg4 harg4 arg5 harg5 x3 x4) (runA.sl.r_82 c arg4 harg4 arg5 harg5 x3 x4) (runA.sl.r_83 c arg5 harg5 x4) = score (runA.sl.r_15 c arg1 harg1 x0) (cAt x3 4608 inb_S1x512x8192_S1x512x512_0_0_4608) (sAt x4 4608 inb_S1x8x8192_S1x8x512_0_0_4608) := by
  simp only [runA.sl.r_75, runA.sl.r_76, runA.sl.r_77, runA.sl.r_78, runA.sl.r_79, runA.sl.r_80, runA.sl.r_81, runA.sl.r_82, runA.sl.r_83, readAt_whole]
  exact score_9 _ _ _

/-- The store of chunk 10 holds its scores. -/
theorem runA_score_10 : k0_pay109 (runA.sl.r_15 c arg1 harg1 x0) (runA.sl.r_84 c arg4 harg4 x3) (runA.sl.r_85 c arg5 harg5 x4) (runA.sl.r_86 c arg4 harg4 arg5 harg5 x3 x4) (runA.sl.r_87 c arg4 harg4 arg5 harg5 x3 x4) (runA.sl.r_88 c arg5 harg5 x4) (runA.sl.r_89 c arg4 harg4 x3) = score (runA.sl.r_15 c arg1 harg1 x0) (cAt x3 5120 inb_S1x512x8192_S1x512x512_0_0_5120) (sAt x4 5120 inb_S1x8x8192_S1x8x512_0_0_5120) := by
  simp only [runA.sl.r_84, runA.sl.r_85, runA.sl.r_86, runA.sl.r_87, runA.sl.r_88, runA.sl.r_89, readAt_whole]
  exact score_10 _ _ _

/-- The store of chunk 11 holds its scores. -/
theorem runA_score_11 : k0_pay121 (runA.sl.r_15 c arg1 harg1 x0) (runA.sl.r_91 c arg4 harg4 arg5 harg5 x3 x4) (runA.sl.r_92 c arg4 harg4 arg5 harg5 x3 x4) (runA.sl.r_93 c arg4 harg4 arg5 harg5 x3 x4) (runA.sl.r_94 c arg4 harg4 arg5 harg5 x3 x4) (runA.sl.r_95 c arg4 harg4 arg5 harg5 x3 x4) (runA.sl.r_96 c arg4 harg4 arg5 harg5 x3 x4) (runA.sl.r_97 c arg4 harg4 arg5 harg5 x3 x4) (runA.sl.r_98 c arg5 harg5 x4) (runA.sl.r_99 c arg4 harg4 x3) = score (runA.sl.r_15 c arg1 harg1 x0) (cAt x3 5632 inb_S1x512x8192_S1x512x512_0_0_5632) (sAt x4 5632 inb_S1x8x8192_S1x8x512_0_0_5632) := by
  simp only [runA.sl.r_91, runA.sl.r_90, runA.sl.r_92, runA.sl.r_93, runA.sl.r_94, runA.sl.r_95, runA.sl.r_96, runA.sl.r_97, runA.sl.r_98, runA.sl.r_99, readAt_whole]
  exact score_11 _ _ _

/-- The store of chunk 12 holds its scores. -/
theorem runA_score_12 : k0_pay129 (runA.sl.r_15 c arg1 harg1 x0) (runA.sl.r_100 c arg4 harg4 x3) (runA.sl.r_101 c arg5 harg5 x4) (runA.sl.r_102 c arg4 harg4 arg5 harg5 x3 x4) (runA.sl.r_103 c arg4 harg4 arg5 harg5 x3 x4) (runA.sl.r_104 c arg4 harg4 arg5 harg5 x3 x4) (runA.sl.r_105 c arg4 harg4 arg5 harg5 x3 x4) (runA.sl.r_106 c arg5 harg5 x4) = score (runA.sl.r_15 c arg1 harg1 x0) (cAt x3 6144 inb_S1x512x8192_S1x512x512_0_0_6144) (sAt x4 6144 inb_S1x8x8192_S1x8x512_0_0_6144) := by
  simp only [runA.sl.r_100, runA.sl.r_101, runA.sl.r_102, runA.sl.r_103, runA.sl.r_104, runA.sl.r_105, runA.sl.r_106, readAt_whole]
  exact score_12 _ _ _

/-- The store of chunk 13 holds its scores. -/
theorem runA_score_13 : k0_pay137 (runA.sl.r_110 c arg1 harg1 arg4 harg4 arg5 harg5 x0 x3 x4) (runA.sl.r_111 c arg1 harg1 x0) (runA.sl.r_112 c arg4 harg4 arg5 harg5 x3 x4) runA.sl.cst_31 = score (runA.sl.r_15 c arg1 harg1 x0) (cAt x3 6656 inb_S1x512x8192_S1x512x512_0_0_6656) (sAt x4 6656 inb_S1x8x8192_S1x8x512_0_0_6656) := by
  simp only [runA.sl.r_110, runA.sl.r_107, runA.sl.r_108, runA.sl.r_109, runA.sl.r_111, runA.sl.r_112, runA.sl.cst_31, readAt_whole]
  exact score_13 _ _ _

/-- The store of chunk 14 holds its scores. -/
theorem runA_score_14 : k0_pay146 (runA.sl.r_15 c arg1 harg1 x0) (runA.sl.r_113 c arg4 harg4 x3) (runA.sl.r_114 c arg5 harg5 x4) (runA.sl.r_115 c arg4 harg4 arg5 harg5 x3 x4) (runA.sl.r_116 c arg4 harg4 arg5 harg5 x3 x4) (runA.sl.r_117 c arg4 harg4 arg5 harg5 x3 x4) (runA.sl.r_118 c arg4 harg4 arg5 harg5 x3 x4) (runA.sl.r_119 c arg4 harg4 arg5 harg5 x3 x4) (runA.sl.r_120 c arg5 harg5 x4) = score (runA.sl.r_15 c arg1 harg1 x0) (cAt x3 7168 inb_S1x512x8192_S1x512x512_0_0_7168) (sAt x4 7168 inb_S1x8x8192_S1x8x512_0_0_7168) := by
  simp only [runA.sl.r_113, runA.sl.r_114, runA.sl.r_115, runA.sl.r_116, runA.sl.r_117, runA.sl.r_118, runA.sl.r_119, runA.sl.r_120, readAt_whole]
  exact score_14 _ _ _

/-- The store of chunk 15 holds its scores. -/
theorem runA_score_15 : runA.sl.r_125 c arg1 harg1 arg4 harg4 arg5 harg5 x0 x3 x4 = score (runA.sl.r_15 c arg1 harg1 x0) (cAt x3 7680 inb_S1x512x8192_S1x512x512_0_0_7680) (sAt x4 7680 inb_S1x8x8192_S1x8x512_0_0_7680) := by
  simp only [runA.sl.r_125, runA.sl.r_121, runA.sl.r_122, runA.sl.r_123, runA.sl.r_124, readAt_whole]
  exact score_15 _ _ _

/-- The store of the new keys' scores. -/
theorem runA_new : k0_pay152 (BitVec.ofNat 32 ↑(i 0)) (runA.sl.r_15 c arg1 harg1 x0) (runA.sl.v1227 c arg2 harg2 arg14 x1) = k0_pay152 (BitVec.ofNat 32 (i 0).val) (runA.sl.r_15 c arg1 harg1 x0) (kNew x1) := by
  simp only [runA.sl.v1227, runA.sl.H13_1, runA.sl.r, runA.sl.r_1, runA.sl.r_2, runA.sl.r_3, runA.sl.r_4, readAt_whole, ld_full_n, readCov_full_d]
  rfl

/-- The score buffer read back. -/
theorem runA_s : (runA.sl.v1245 c i arg1 harg1 arg2 harg2 arg4 harg4 arg5 harg5 arg13 arg14 x0 x1 x3 x4) = sBuf (BitVec.ofNat 32 (i 0).val) (qbd x0) x3 x4 (kNew x1) := by
  unfold runA.sl.v1245 runA.sl.H12_17
  rw [readCov_s, runA_new, runA_score_15, runA_score_14, runA_score_13, runA_score_12, runA_score_11, runA_score_10, runA_score_9, runA_score_8, runA_score_7, runA_score_6, runA_score_5, runA_score_4, runA_score_3, runA_score_2, runA_score_1, runA_score_0, runA_q]
  rfl

/-- The attention sum starts at the new values. -/
theorem runA_o : (runA.sl.r_128 c i arg1 harg1 arg2 harg2 arg3 harg3 arg4 harg4 arg5 harg5 arg13 arg14 arg15 x0 x1 x2 x3 x4) = k0_pay156 (runA.sl.v1245 c i arg1 harg1 arg2 harg2 arg4 harg4 arg5 harg5 arg13 arg14 x0 x1 x3 x4) (vNew x2) := by
  simp only [runA.sl.r_128, runA.sl.v1254, runA.sl.H14_1, runA.sl.r_6, runA.sl.r_7, runA.sl.r_5, runA.sl.r_8, runA.sl.r_9, runA.sl.r_10, runA.sl.r_11, runA.sl.r_12, runA.sl.r_13, readAt_whole, ld_full_d, ld_full_n, readCov_full_d]
  rfl

/-- The attention sum after chunk 0. -/
theorem runA_attend_0 : (runA.sl.r_132 c i arg1 harg1 arg2 harg2 arg3 harg3 arg4 harg4 arg5 harg5 arg6 harg6 arg7 harg7 arg13 arg14 arg15 x0 x1 x2 x3 x4 x5 x6) = attend (runA.sl.r_128 c i arg1 harg1 arg2 harg2 arg3 harg3 arg4 harg4 arg5 harg5 arg13 arg14 arg15 x0 x1 x2 x3 x4) (runA.sl.r_127 c i arg1 harg1 arg2 harg2 arg4 harg4 arg5 harg5 arg13 arg14 x0 x1 x3 x4) 0 slices_S32x8320_o0_0_S32x512 (cAt x5 0 inb_S1x512x8192_S1x512x512_0_0_0) (sAt x6 0 inb_S1x8x8192_S1x8x512_0_0_0) := by
  simp only [runA.sl.r_132, runA.sl.r_129, runA.sl.r_130, runA.sl.r_131, readAt_whole]
  exact attend_0 _ _ _ _

/-- The attention sum after chunk 1. -/
theorem runA_attend_1 : (runA.sl.r_142 c i arg1 harg1 arg2 harg2 arg3 harg3 arg4 harg4 arg5 harg5 arg6 harg6 arg7 harg7 arg13 arg14 arg15 x0 x1 x2 x3 x4 x5 x6) = attend (runA.sl.r_132 c i arg1 harg1 arg2 harg2 arg3 harg3 arg4 harg4 arg5 harg5 arg6 harg6 arg7 harg7 arg13 arg14 arg15 x0 x1 x2 x3 x4 x5 x6) (runA.sl.r_127 c i arg1 harg1 arg2 harg2 arg4 harg4 arg5 harg5 arg13 arg14 x0 x1 x3 x4) 512 slices_S32x8320_o0_512_S32x512 (cAt x5 512 inb_S1x512x8192_S1x512x512_0_0_512) (sAt x6 512 inb_S1x8x8192_S1x8x512_0_0_512) := by
  simp only [runA.sl.r_142, runA.sl.r_133, runA.sl.r_134, runA.sl.r_135, runA.sl.r_136, runA.sl.r_137, runA.sl.r_138, runA.sl.r_139, runA.sl.r_140, runA.sl.r_141, readAt_whole]
  exact attend_1 _ _ _ _

/-- The attention sum after chunk 2. -/
theorem runA_attend_2 : (runA.sl.r_152 c i arg1 harg1 arg2 harg2 arg3 harg3 arg4 harg4 arg5 harg5 arg6 harg6 arg7 harg7 arg13 arg14 arg15 x0 x1 x2 x3 x4 x5 x6) = attend (runA.sl.r_142 c i arg1 harg1 arg2 harg2 arg3 harg3 arg4 harg4 arg5 harg5 arg6 harg6 arg7 harg7 arg13 arg14 arg15 x0 x1 x2 x3 x4 x5 x6) (runA.sl.r_127 c i arg1 harg1 arg2 harg2 arg4 harg4 arg5 harg5 arg13 arg14 x0 x1 x3 x4) 1024 slices_S32x8320_o0_1024_S32x512 (cAt x5 1024 inb_S1x512x8192_S1x512x512_0_0_1024) (sAt x6 1024 inb_S1x8x8192_S1x8x512_0_0_1024) := by
  simp only [runA.sl.r_152, runA.sl.r_143, runA.sl.r_144, runA.sl.r_145, runA.sl.r_146, runA.sl.r_147, runA.sl.r_148, runA.sl.r_149, runA.sl.r_150, runA.sl.r_151, readAt_whole]
  exact attend_2 _ _ _ _

/-- The attention sum after chunk 3. -/
theorem runA_attend_3 : (runA.sl.r_160 c i arg1 harg1 arg2 harg2 arg3 harg3 arg4 harg4 arg5 harg5 arg6 harg6 arg7 harg7 arg13 arg14 arg15 x0 x1 x2 x3 x4 x5 x6) = attend (runA.sl.r_152 c i arg1 harg1 arg2 harg2 arg3 harg3 arg4 harg4 arg5 harg5 arg6 harg6 arg7 harg7 arg13 arg14 arg15 x0 x1 x2 x3 x4 x5 x6) (runA.sl.r_127 c i arg1 harg1 arg2 harg2 arg4 harg4 arg5 harg5 arg13 arg14 x0 x1 x3 x4) 1536 slices_S32x8320_o0_1536_S32x512 (cAt x5 1536 inb_S1x512x8192_S1x512x512_0_0_1536) (sAt x6 1536 inb_S1x8x8192_S1x8x512_0_0_1536) := by
  simp only [runA.sl.r_160, runA.sl.r_153, runA.sl.r_154, runA.sl.r_155, runA.sl.r_156, runA.sl.r_157, runA.sl.r_158, runA.sl.r_159, readAt_whole]
  exact attend_3 _ _ _ _

/-- The attention sum after chunk 4. -/
theorem runA_attend_4 : (runA.sl.r_167 c i arg1 harg1 arg2 harg2 arg3 harg3 arg4 harg4 arg5 harg5 arg6 harg6 arg7 harg7 arg13 arg14 arg15 x0 x1 x2 x3 x4 x5 x6) = attend (runA.sl.r_160 c i arg1 harg1 arg2 harg2 arg3 harg3 arg4 harg4 arg5 harg5 arg6 harg6 arg7 harg7 arg13 arg14 arg15 x0 x1 x2 x3 x4 x5 x6) (runA.sl.r_127 c i arg1 harg1 arg2 harg2 arg4 harg4 arg5 harg5 arg13 arg14 x0 x1 x3 x4) 2048 slices_S32x8320_o0_2048_S32x512 (cAt x5 2048 inb_S1x512x8192_S1x512x512_0_0_2048) (sAt x6 2048 inb_S1x8x8192_S1x8x512_0_0_2048) := by
  simp only [runA.sl.r_167, runA.sl.r_161, runA.sl.r_162, runA.sl.r_163, runA.sl.r_164, runA.sl.r_165, runA.sl.r_166, readAt_whole]
  exact attend_4 _ _ _ _

/-- The attention sum after chunk 5. -/
theorem runA_attend_5 : (runA.sl.r_172 c i arg1 harg1 arg2 harg2 arg3 harg3 arg4 harg4 arg5 harg5 arg6 harg6 arg7 harg7 arg13 arg14 arg15 x0 x1 x2 x3 x4 x5 x6) = attend (runA.sl.r_167 c i arg1 harg1 arg2 harg2 arg3 harg3 arg4 harg4 arg5 harg5 arg6 harg6 arg7 harg7 arg13 arg14 arg15 x0 x1 x2 x3 x4 x5 x6) (runA.sl.r_127 c i arg1 harg1 arg2 harg2 arg4 harg4 arg5 harg5 arg13 arg14 x0 x1 x3 x4) 2560 slices_S32x8320_o0_2560_S32x512 (cAt x5 2560 inb_S1x512x8192_S1x512x512_0_0_2560) (sAt x6 2560 inb_S1x8x8192_S1x8x512_0_0_2560) := by
  simp only [runA.sl.r_172, runA.sl.r_168, runA.sl.r_169, runA.sl.r_170, runA.sl.r_171, readAt_whole]
  exact attend_5 _ _ _ _

/-- The attention sum after chunk 6. -/
theorem runA_attend_6 : (runA.sl.r_175 c i arg1 harg1 arg2 harg2 arg3 harg3 arg4 harg4 arg5 harg5 arg6 harg6 arg7 harg7 arg13 arg14 arg15 x0 x1 x2 x3 x4 x5 x6) = attend (runA.sl.r_172 c i arg1 harg1 arg2 harg2 arg3 harg3 arg4 harg4 arg5 harg5 arg6 harg6 arg7 harg7 arg13 arg14 arg15 x0 x1 x2 x3 x4 x5 x6) (runA.sl.r_127 c i arg1 harg1 arg2 harg2 arg4 harg4 arg5 harg5 arg13 arg14 x0 x1 x3 x4) 3072 slices_S32x8320_o0_3072_S32x512 (cAt x5 3072 inb_S1x512x8192_S1x512x512_0_0_3072) (sAt x6 3072 inb_S1x8x8192_S1x8x512_0_0_3072) := by
  simp only [runA.sl.r_175, runA.sl.r_174, runA.sl.r_173, readAt_whole]
  exact attend_6 _ _ _ _

/-- The attention sum after chunk 7. -/
theorem runA_attend_7 : (runA.sl.r_185 c i arg1 harg1 arg2 harg2 arg3 harg3 arg4 harg4 arg5 harg5 arg6 harg6 arg7 harg7 arg13 arg14 arg15 x0 x1 x2 x3 x4 x5 x6) = attend (runA.sl.r_175 c i arg1 harg1 arg2 harg2 arg3 harg3 arg4 harg4 arg5 harg5 arg6 harg6 arg7 harg7 arg13 arg14 arg15 x0 x1 x2 x3 x4 x5 x6) (runA.sl.r_127 c i arg1 harg1 arg2 harg2 arg4 harg4 arg5 harg5 arg13 arg14 x0 x1 x3 x4) 3584 slices_S32x8320_o0_3584_S32x512 (cAt x5 3584 inb_S1x512x8192_S1x512x512_0_0_3584) (sAt x6 3584 inb_S1x8x8192_S1x8x512_0_0_3584) := by
  simp only [runA.sl.r_185, runA.sl.r_176, runA.sl.r_177, runA.sl.r_178, runA.sl.r_179, runA.sl.r_180, runA.sl.r_181, runA.sl.r_182, runA.sl.r_183, runA.sl.r_184, readAt_whole]
  exact attend_7 _ _ _ _

/-- The attention sum after chunk 8. -/
theorem runA_attend_8 : (runA.sl.r_193 c i arg1 harg1 arg2 harg2 arg3 harg3 arg4 harg4 arg5 harg5 arg6 harg6 arg7 harg7 arg13 arg14 arg15 x0 x1 x2 x3 x4 x5 x6) = attend (runA.sl.r_185 c i arg1 harg1 arg2 harg2 arg3 harg3 arg4 harg4 arg5 harg5 arg6 harg6 arg7 harg7 arg13 arg14 arg15 x0 x1 x2 x3 x4 x5 x6) (runA.sl.r_127 c i arg1 harg1 arg2 harg2 arg4 harg4 arg5 harg5 arg13 arg14 x0 x1 x3 x4) 4096 slices_S32x8320_o0_4096_S32x512 (cAt x5 4096 inb_S1x512x8192_S1x512x512_0_0_4096) (sAt x6 4096 inb_S1x8x8192_S1x8x512_0_0_4096) := by
  simp only [runA.sl.r_193, runA.sl.r_186, runA.sl.r_187, runA.sl.r_188, runA.sl.r_189, runA.sl.r_190, runA.sl.r_191, runA.sl.r_192, readAt_whole]
  exact attend_8 _ _ _ _

/-- The attention sum after chunk 9. -/
theorem runA_attend_9 : (runA.sl.r_200 c i arg1 harg1 arg2 harg2 arg3 harg3 arg4 harg4 arg5 harg5 arg6 harg6 arg7 harg7 arg13 arg14 arg15 x0 x1 x2 x3 x4 x5 x6) = attend (runA.sl.r_193 c i arg1 harg1 arg2 harg2 arg3 harg3 arg4 harg4 arg5 harg5 arg6 harg6 arg7 harg7 arg13 arg14 arg15 x0 x1 x2 x3 x4 x5 x6) (runA.sl.r_127 c i arg1 harg1 arg2 harg2 arg4 harg4 arg5 harg5 arg13 arg14 x0 x1 x3 x4) 4608 slices_S32x8320_o0_4608_S32x512 (cAt x5 4608 inb_S1x512x8192_S1x512x512_0_0_4608) (sAt x6 4608 inb_S1x8x8192_S1x8x512_0_0_4608) := by
  simp only [runA.sl.r_200, runA.sl.r_194, runA.sl.r_195, runA.sl.r_196, runA.sl.r_197, runA.sl.r_198, runA.sl.r_199, readAt_whole]
  exact attend_9 _ _ _ _

/-- The attention sum after chunk 10. -/
theorem runA_attend_10 : (runA.sl.r_206 c i arg1 harg1 arg2 harg2 arg3 harg3 arg4 harg4 arg5 harg5 arg6 harg6 arg7 harg7 arg13 arg14 arg15 x0 x1 x2 x3 x4 x5 x6) = attend (runA.sl.r_200 c i arg1 harg1 arg2 harg2 arg3 harg3 arg4 harg4 arg5 harg5 arg6 harg6 arg7 harg7 arg13 arg14 arg15 x0 x1 x2 x3 x4 x5 x6) (runA.sl.r_127 c i arg1 harg1 arg2 harg2 arg4 harg4 arg5 harg5 arg13 arg14 x0 x1 x3 x4) 5120 slices_S32x8320_o0_5120_S32x512 (cAt x5 5120 inb_S1x512x8192_S1x512x512_0_0_5120) (sAt x6 5120 inb_S1x8x8192_S1x8x512_0_0_5120) := by
  simp only [runA.sl.r_206, runA.sl.r_201, runA.sl.r_202, runA.sl.r_203, runA.sl.r_204, runA.sl.r_205, readAt_whole]
  exact attend_10 _ _ _ _

/-- The attention sum after chunk 11. -/
theorem runA_attend_11 : (runA.sl.r_210 c i arg1 harg1 arg2 harg2 arg3 harg3 arg4 harg4 arg5 harg5 arg6 harg6 arg7 harg7 arg13 arg14 arg15 x0 x1 x2 x3 x4 x5 x6) = attend (runA.sl.r_206 c i arg1 harg1 arg2 harg2 arg3 harg3 arg4 harg4 arg5 harg5 arg6 harg6 arg7 harg7 arg13 arg14 arg15 x0 x1 x2 x3 x4 x5 x6) (runA.sl.r_127 c i arg1 harg1 arg2 harg2 arg4 harg4 arg5 harg5 arg13 arg14 x0 x1 x3 x4) 5632 slices_S32x8320_o0_5632_S32x512 (cAt x5 5632 inb_S1x512x8192_S1x512x512_0_0_5632) (sAt x6 5632 inb_S1x8x8192_S1x8x512_0_0_5632) := by
  simp only [runA.sl.r_210, runA.sl.r_207, runA.sl.r_208, runA.sl.r_209, readAt_whole]
  exact attend_11 _ _ _ _

/-- The attention sum after chunk 12. -/
theorem runA_attend_12 : (runA.sl.r_220 c i arg1 harg1 arg2 harg2 arg3 harg3 arg4 harg4 arg5 harg5 arg6 harg6 arg7 harg7 arg13 arg14 arg15 x0 x1 x2 x3 x4 x5 x6) = attend (runA.sl.r_210 c i arg1 harg1 arg2 harg2 arg3 harg3 arg4 harg4 arg5 harg5 arg6 harg6 arg7 harg7 arg13 arg14 arg15 x0 x1 x2 x3 x4 x5 x6) (runA.sl.r_127 c i arg1 harg1 arg2 harg2 arg4 harg4 arg5 harg5 arg13 arg14 x0 x1 x3 x4) 6144 slices_S32x8320_o0_6144_S32x512 (cAt x5 6144 inb_S1x512x8192_S1x512x512_0_0_6144) (sAt x6 6144 inb_S1x8x8192_S1x8x512_0_0_6144) := by
  simp only [runA.sl.r_220, runA.sl.r_211, runA.sl.r_212, runA.sl.r_213, runA.sl.r_214, runA.sl.r_215, runA.sl.r_216, runA.sl.r_217, runA.sl.r_218, runA.sl.r_219, readAt_whole]
  exact attend_12 _ _ _ _

/-- The attention sum after chunk 13. -/
theorem runA_attend_13 : (runA.sl.r_230 c i arg1 harg1 arg2 harg2 arg3 harg3 arg4 harg4 arg5 harg5 arg6 harg6 arg7 harg7 arg13 arg14 arg15 x0 x1 x2 x3 x4 x5 x6) = attend (runA.sl.r_220 c i arg1 harg1 arg2 harg2 arg3 harg3 arg4 harg4 arg5 harg5 arg6 harg6 arg7 harg7 arg13 arg14 arg15 x0 x1 x2 x3 x4 x5 x6) (runA.sl.r_127 c i arg1 harg1 arg2 harg2 arg4 harg4 arg5 harg5 arg13 arg14 x0 x1 x3 x4) 6656 slices_S32x8320_o0_6656_S32x512 (cAt x5 6656 inb_S1x512x8192_S1x512x512_0_0_6656) (sAt x6 6656 inb_S1x8x8192_S1x8x512_0_0_6656) := by
  simp only [runA.sl.r_230, runA.sl.r_221, runA.sl.r_222, runA.sl.r_223, runA.sl.r_224, runA.sl.r_225, runA.sl.r_226, runA.sl.r_227, runA.sl.r_228, runA.sl.r_229, readAt_whole]
  exact attend_13 _ _ _ _

/-- The attention sum after chunk 14. -/
theorem runA_attend_14 : (runA.sl.r_238 c i arg1 harg1 arg2 harg2 arg3 harg3 arg4 harg4 arg5 harg5 arg6 harg6 arg7 harg7 arg13 arg14 arg15 x0 x1 x2 x3 x4 x5 x6) = attend (runA.sl.r_230 c i arg1 harg1 arg2 harg2 arg3 harg3 arg4 harg4 arg5 harg5 arg6 harg6 arg7 harg7 arg13 arg14 arg15 x0 x1 x2 x3 x4 x5 x6) (runA.sl.r_127 c i arg1 harg1 arg2 harg2 arg4 harg4 arg5 harg5 arg13 arg14 x0 x1 x3 x4) 7168 slices_S32x8320_o0_7168_S32x512 (cAt x5 7168 inb_S1x512x8192_S1x512x512_0_0_7168) (sAt x6 7168 inb_S1x8x8192_S1x8x512_0_0_7168) := by
  simp only [runA.sl.r_238, runA.sl.r_231, runA.sl.r_232, runA.sl.r_233, runA.sl.r_234, runA.sl.r_235, runA.sl.r_236, runA.sl.r_237, readAt_whole]
  exact attend_14 _ _ _ _

/-- The attention sum after chunk 15. -/
theorem runA_attend_15 : (runA.sl.r_244 c i arg1 harg1 arg2 harg2 arg3 harg3 arg4 harg4 arg5 harg5 arg6 harg6 arg7 harg7 arg13 arg14 arg15 x0 x1 x2 x3 x4 x5 x6) = attend (runA.sl.r_238 c i arg1 harg1 arg2 harg2 arg3 harg3 arg4 harg4 arg5 harg5 arg6 harg6 arg7 harg7 arg13 arg14 arg15 x0 x1 x2 x3 x4 x5 x6) (runA.sl.r_127 c i arg1 harg1 arg2 harg2 arg4 harg4 arg5 harg5 arg13 arg14 x0 x1 x3 x4) 7680 slices_S32x8320_o0_7680_S32x512 (cAt x5 7680 inb_S1x512x8192_S1x512x512_0_0_7680) (sAt x6 7680 inb_S1x8x8192_S1x8x512_0_0_7680) := by
  simp only [runA.sl.r_244, runA.sl.r_239, runA.sl.r_240, runA.sl.r_241, runA.sl.r_242, runA.sl.r_243, readAt_whole]
  exact attend_15 _ _ _ _

/-- The last word. -/
theorem runA_y : (runA.sl.r_247 c i arg1 harg1 arg2 harg2 arg3 harg3 arg4 harg4 arg5 harg5 arg6 harg6 arg7 harg7 arg13 arg14 arg15 x0 x1 x2 x3 x4 x5 x6) = finish (runA.sl.r_126 c i arg1 harg1 arg2 harg2 arg4 harg4 arg5 harg5 arg13 arg14 x0 x1 x3 x4) (runA.sl.r_244 c i arg1 harg1 arg2 harg2 arg3 harg3 arg4 harg4 arg5 harg5 arg6 harg6 arg7 harg7 arg13 arg14 arg15 x0 x1 x2 x3 x4 x5 x6) := by
  simp only [runA.sl.r_247, runA.sl.r_245, runA.sl.v2281, runA.sl.v2282, runA.sl.r_246]
  rfl

/-- The block of the attention output. -/
theorem runA_out : k0_pay1 (runA.sl.r_247 c i arg1 harg1 arg2 harg2 arg3 harg3 arg4 harg4 arg5 harg5 arg6 harg6 arg7 harg7 arg13 arg14 arg15 x0 x1 x2 x3 x4 x5 x6) = yOut (BitVec.ofNat 32 (i 0).val) x0 x3 x4 x5 x6 (kNew x1) (vNew x2) := by
  rw [runA_y, runA_attend_15, runA_attend_14, runA_attend_13, runA_attend_12, runA_attend_11, runA_attend_10, runA_attend_9, runA_attend_8, runA_attend_7, runA_attend_6, runA_attend_5, runA_attend_4, runA_attend_3, runA_attend_2, runA_attend_1, runA_attend_0, runA_o]
  unfold runA.sl.r_127 runA.sl.r_126
  rw [runA_s]
  rfl

/-- What the grid point stores into its block of the attention output. -/
theorem runA_pieces : (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6).1 = [⟨Rect.unit ![0, 0, 0] S1x32x64.size inb_S1x32x64_S1x32x64_0_0_0, yOut (BitVec.ofNat 32 (i 0).val) x0 x3 x4 x5 x6 (kNew x1) (vNew x2)⟩] := by
  unfold runA
  dsimp only
  rw [runA_out]

/-- What the first grid point stores of the codes of the new keys. -/
theorem runA_pieces_1 : (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6).2.1 = [⟨Rect.unit ![0, 0, 0] S8x64x128.size inb_S8x64x128_S8x64x128_0_0_0, k0_pay4 x1⟩] := by
  unfold runA
  dsimp only
  simp only [runA.sl.r, runA.sl.r_1, runA.sl.r_2, runA.sl.r_3, runA.sl.r_4, runA.sl.r_5, runA.sl.r_6, runA.sl.r_7, runA.sl.r_8, runA.sl.r_9, runA.sl.r_10, runA.sl.r_11, runA.sl.r_12, runA.sl.r_13, runA.sl.H13_1, runA.sl.H14_1, readAt_whole, ld_full_n]

/-- What the first grid point stores of the scales of the new keys. -/
theorem runA_pieces_2 : (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6).2.2.1 = [⟨Rect.unit ![0, 0] S8x128.size inb_S8x128_S8x128_0_0, k0_pay3 x1⟩] := by
  unfold runA
  dsimp only
  simp only [runA.sl.r, runA.sl.r_1, runA.sl.r_2, runA.sl.r_3, runA.sl.r_4, runA.sl.r_5, runA.sl.r_6, runA.sl.r_7, runA.sl.r_8, runA.sl.r_9, runA.sl.r_10, runA.sl.r_11, runA.sl.r_12, runA.sl.r_13, runA.sl.H13_1, runA.sl.H14_1, readAt_whole, ld_full_n]

/-- What the first grid point stores of the codes of the new values. -/
theorem runA_pieces_3 : (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6).2.2.2.1 = [⟨Rect.unit ![0, 0, 0] S8x64x128.size inb_S8x64x128_S8x64x128_0_0_0, vCode x2⟩] := by
  unfold runA
  dsimp only
  simp only [runA.sl.r, runA.sl.r_1, runA.sl.r_2, runA.sl.r_3, runA.sl.r_4, runA.sl.r_5, runA.sl.r_6, runA.sl.r_7, runA.sl.r_8, runA.sl.r_9, runA.sl.r_10, runA.sl.r_11, runA.sl.r_12, runA.sl.r_13, runA.sl.H13_1, runA.sl.H14_1, readAt_whole, ld_full_n]
  rfl

/-- What the first grid point stores of the scales of the new values. -/
theorem runA_pieces_4 : (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6).2.2.2.2.1 = [⟨Rect.unit ![0, 0] S8x128.size inb_S8x128_S8x128_0_0, vScale x2⟩] := by
  unfold runA
  dsimp only
  simp only [runA.sl.r, runA.sl.r_1, runA.sl.r_2, runA.sl.r_3, runA.sl.r_4, runA.sl.r_5, runA.sl.r_6, runA.sl.r_7, runA.sl.r_8, runA.sl.r_9, runA.sl.r_10, runA.sl.r_11, runA.sl.r_12, runA.sl.r_13, runA.sl.H13_1, runA.sl.H14_1, readAt_whole, ld_full_n]
  rfl

/-- What the first grid point stores of the dequantised new keys, carried. -/
theorem runA_pieces_5 : (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6).2.2.2.2.2.1 = [⟨Rect.unit ![0, 0] S512x128.size inb_S512x128_S512x128_0_0, kNew x1⟩] := by
  unfold runA
  dsimp only
  simp only [runA.sl.r, runA.sl.r_1, runA.sl.r_2, runA.sl.r_3, runA.sl.r_4, runA.sl.r_5, runA.sl.r_6, runA.sl.r_7, runA.sl.r_8, runA.sl.r_9, runA.sl.r_10, runA.sl.r_11, runA.sl.r_12, runA.sl.r_13, runA.sl.H13_1, runA.sl.H14_1, readAt_whole, ld_full_n]
  rfl

/-- What the first grid point stores of the dequantised new values, carried. -/
theorem runA_pieces_6 : (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6).2.2.2.2.2.2.1 = [⟨Rect.unit ![0, 0] S512x128.size inb_S512x128_S512x128_0_0, vNew x2⟩] := by
  unfold runA
  dsimp only
  simp only [runA.sl.r, runA.sl.r_1, runA.sl.r_2, runA.sl.r_3, runA.sl.r_4, runA.sl.r_5, runA.sl.r_6, runA.sl.r_7, runA.sl.r_8, runA.sl.r_9, runA.sl.r_10, runA.sl.r_11, runA.sl.r_12, runA.sl.r_13, runA.sl.H13_1, runA.sl.H14_1, readAt_whole, ld_full_n]
  rfl

end Cert.KernelIdeal.Hand

end
-- ==== Proof.KRunB.lean ====
module

public import proofs.«01_k».proof.Proof.KRunA

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- Any later grid point: the body writes the pieces `L7` to its attention output; the quantised new tokens and the two
    carried scratch buffers keep their contents. -/
def runB (c : Dev nD) (i : grid0.Coords) (arg1 : Memref sig .tc .vmem S1x32x64 .bf16) (harg1 : arg1.IsWhole) (arg2 : Memref sig .tc .vmem S8x64x128 .bf16) (harg2 : arg2.IsWhole) (arg3 : Memref sig .tc .vmem S8x64x128 .bf16) (harg3 : arg3.IsWhole) (arg4 : Memref sig .tc .vmem S1x512x8192 .i8) (harg4 : arg4.IsWhole) (arg5 : Memref sig .tc .vmem S1x8x8192 .f32) (harg5 : arg5.IsWhole) (arg6 : Memref sig .tc .vmem S1x512x8192 .i8) (harg6 : arg6.IsWhole) (arg7 : Memref sig .tc .vmem S1x8x8192 .f32) (harg7 : arg7.IsWhole) (arg8 : Memref sig .tc .vmem S1x32x64 .bf16) (harg8 : arg8.IsWhole) (arg9 : Memref sig .tc .vmem S8x64x128 .i8) (harg9 : arg9.IsWhole) (arg10 : Memref sig .tc .vmem S8x128 .f32) (harg10 : arg10.IsWhole) (arg11 : Memref sig .tc .vmem S8x64x128 .i8) (harg11 : arg11.IsWhole) (arg12 : Memref sig .tc .vmem S8x128 .f32) (harg12 : arg12.IsWhole) (arg13 : Memref sig .tc .vmem S32x8320 .f32) (harg13 : arg13.IsWhole) (arg14 : Memref sig .tc .vmem S512x128 .bf16) (harg14 : arg14.IsWhole) (arg15 : Memref sig .tc .vmem S512x128 .bf16) (harg15 : arg15.IsWhole) (hc0 : ¬cond0_0 i)
    (x0 : Vec F S1x32x64 .bf16) (x1 : Vec F S8x64x128 .bf16) (x2 : Vec F S8x64x128 .bf16) (x3 : Vec F S1x512x8192 .i8) (x4 : Vec F S1x8x8192 .f32) (x5 : Vec F S1x512x8192 .i8) (x6 : Vec F S1x8x8192 .f32) (y8 : Vec F S8x64x128 .i8) (y9 : Vec F S8x128 .f32) (y10 : Vec F S8x64x128 .i8) (y11 : Vec F S8x128 .f32) (y13 : Vec F S512x128 .bf16) (y14 : Vec F S512x128 .bf16) :
    { L7 : List (View.Piece (Elt F) S1x32x64 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare y8 ∗ owns (c : Thread nD τ) arg10 fullShare y9 ∗ owns (c : Thread nD τ) arg11 fullShare y10 ∗ owns (c : Thread nD τ) arg12 fullShare y11 ∗ (∃ d, owns (c : Thread nD τ) arg13 fullShare d) ∗ owns (c : Thread nD τ) arg14 fullShare y13 ∗ owns (c : Thread nD τ) arg15 fullShare y14
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ owns (c : Thread nD τ) arg9 fullShare y8 ∗ owns (c : Thread nD τ) arg10 fullShare y9 ∗ owns (c : Thread nD τ) arg11 fullShare y10 ∗ owns (c : Thread nD τ) arg12 fullShare y11 ∗ (∃ d, owns (c : Thread nD τ) arg13 fullShare d) ∗ owns (c : Thread nD τ) arg14 fullShare y13 ∗ owns (c : Thread nD τ) arg15 fullShare y14) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, fun E K => ?run⟩
  case run =>
    simp only [cc0__body_eq_skeleton]; unfold cc0__body_skel
    simp only [k0_part49_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%f10, %hf10, H10⟩, ⟨%f11, %hf11, H11⟩, ⟨%d12, %f12, -, H12⟩, ⟨%f13, %hf13, H13⟩, ⟨%f14, %hf14, H14⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hf8; obtain rfl := harg10.eq_unread hf9; obtain rfl := harg11.eq_unread hf10; obtain rfl := harg12.eq_unread hf11; obtain rfl := harg14.eq_unread hf13; obtain rfl := harg15.eq_unread hf14
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _, _; isplitr; swap; · iexact H12
      ipureintro; rfl
    isplitl [H13]
    · iexists _; isplitr; · ipureintro; exact harg14.read_unread _
      iexact H13
    iexists _; isplitr; · ipureintro; exact harg15.read_unread _
    iexact H14

end Cert.KernelIdeal.Hand

end
-- ==== Proof.KReadB.lean ====
module

public import proofs.«01_k».proof.Proof.KRunB
public import proofs.«01_k».proof.Proof.KFold

@[expose] public section

/-! The two runs of the body, read as the named stages: the first grid point (`runA`) and every later one (`runB`). -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000

variable  (c : Dev nD) (i : grid0.Coords) (arg1 : Memref sig .tc .vmem S1x32x64 .bf16) (harg1 : arg1.IsWhole) (arg2 : Memref sig .tc .vmem S8x64x128 .bf16) (harg2 : arg2.IsWhole) (arg3 : Memref sig .tc .vmem S8x64x128 .bf16) (harg3 : arg3.IsWhole) (arg4 : Memref sig .tc .vmem S1x512x8192 .i8) (harg4 : arg4.IsWhole) (arg5 : Memref sig .tc .vmem S1x8x8192 .f32) (harg5 : arg5.IsWhole) (arg6 : Memref sig .tc .vmem S1x512x8192 .i8) (harg6 : arg6.IsWhole) (arg7 : Memref sig .tc .vmem S1x8x8192 .f32) (harg7 : arg7.IsWhole) (arg8 : Memref sig .tc .vmem S1x32x64 .bf16) (harg8 : arg8.IsWhole) (arg9 : Memref sig .tc .vmem S8x64x128 .i8) (harg9 : arg9.IsWhole) (arg10 : Memref sig .tc .vmem S8x128 .f32) (harg10 : arg10.IsWhole) (arg11 : Memref sig .tc .vmem S8x64x128 .i8) (harg11 : arg11.IsWhole) (arg12 : Memref sig .tc .vmem S8x128 .f32) (harg12 : arg12.IsWhole) (arg13 : Memref sig .tc .vmem S32x8320 .f32) (harg13 : arg13.IsWhole) (arg14 : Memref sig .tc .vmem S512x128 .bf16) (harg14 : arg14.IsWhole) (arg15 : Memref sig .tc .vmem S512x128 .bf16) (harg15 : arg15.IsWhole) (hc0 : ¬cond0_0 i)
    (x0 : Vec F S1x32x64 .bf16) (x1 : Vec F S8x64x128 .bf16) (x2 : Vec F S8x64x128 .bf16) (x3 : Vec F S1x512x8192 .i8) (x4 : Vec F S1x8x8192 .f32) (x5 : Vec F S1x512x8192 .i8) (x6 : Vec F S1x8x8192 .f32) (y8 : Vec F S8x64x128 .i8) (y9 : Vec F S8x128 .f32) (y10 : Vec F S8x64x128 .i8) (y11 : Vec F S8x128 .f32) (y13 : Vec F S512x128 .bf16) (y14 : Vec F S512x128 .bf16)

/-- The query word is the block-diagonal query. -/
theorem runB_q : (runB.sl.r_1 c arg1 harg1 x0) = qbd x0 := by
  simp only [runB.sl.r_1, runB.sl.r, runB.sl.v7, readAt_whole, ld_full_q]
  rfl

/-- The store of chunk 0 holds its scores. -/
theorem runB_score_0 : k0_pay33 (runB.sl.r_1 c arg1 harg1 x0) (runB.sl.r_2 c arg4 harg4 x3) (runB.sl.r_3 c arg5 harg5 x4) (runB.sl.r_4 c arg4 harg4 arg5 harg5 x3 x4) (runB.sl.r_5 c arg4 harg4 arg5 harg5 x3 x4) (runB.sl.r_6 c arg4 harg4 arg5 harg5 x3 x4) (runB.sl.r_7 c arg4 harg4 arg5 harg5 x3 x4) (runB.sl.r_8 c arg5 harg5 x4) = score (runB.sl.r_1 c arg1 harg1 x0) (cAt x3 0 inb_S1x512x8192_S1x512x512_0_0_0) (sAt x4 0 inb_S1x8x8192_S1x8x512_0_0_0) := by
  simp only [runB.sl.r_2, runB.sl.r_3, runB.sl.r_4, runB.sl.r_5, runB.sl.r_6, runB.sl.r_7, runB.sl.r_8, readAt_whole]
  exact score_0 _ _ _

/-- The store of chunk 1 holds its scores. -/
theorem runB_score_1 : k0_pay41 (runB.sl.r_12 c arg1 harg1 arg4 harg4 arg5 harg5 x0 x3 x4) (runB.sl.r_13 c arg1 harg1 x0) (runB.sl.r_14 c arg4 harg4 arg5 harg5 x3 x4) runB.sl.cst_31 = score (runB.sl.r_1 c arg1 harg1 x0) (cAt x3 512 inb_S1x512x8192_S1x512x512_0_0_512) (sAt x4 512 inb_S1x8x8192_S1x8x512_0_0_512) := by
  simp only [runB.sl.r_12, runB.sl.r_9, runB.sl.r_10, runB.sl.r_11, runB.sl.r_13, runB.sl.r_14, runB.sl.cst_31, readAt_whole]
  exact score_1 _ _ _

/-- The store of chunk 2 holds its scores. -/
theorem runB_score_2 : k0_pay50 (runB.sl.r_1 c arg1 harg1 x0) (runB.sl.r_15 c arg4 harg4 x3) (runB.sl.r_16 c arg5 harg5 x4) (runB.sl.r_17 c arg4 harg4 arg5 harg5 x3 x4) (runB.sl.r_18 c arg4 harg4 arg5 harg5 x3 x4) (runB.sl.r_19 c arg4 harg4 arg5 harg5 x3 x4) (runB.sl.r_20 c arg4 harg4 arg5 harg5 x3 x4) (runB.sl.r_21 c arg4 harg4 arg5 harg5 x3 x4) (runB.sl.r_22 c arg5 harg5 x4) = score (runB.sl.r_1 c arg1 harg1 x0) (cAt x3 1024 inb_S1x512x8192_S1x512x512_0_0_1024) (sAt x4 1024 inb_S1x8x8192_S1x8x512_0_0_1024) := by
  simp only [runB.sl.r_15, runB.sl.r_16, runB.sl.r_17, runB.sl.r_18, runB.sl.r_19, runB.sl.r_20, runB.sl.r_21, runB.sl.r_22, readAt_whole]
  exact score_2 _ _ _

/-- The store of chunk 3 holds its scores. -/
theorem runB_score_3 : runB.sl.r_27 c arg1 harg1 arg4 harg4 arg5 harg5 x0 x3 x4 = score (runB.sl.r_1 c arg1 harg1 x0) (cAt x3 1536 inb_S1x512x8192_S1x512x512_0_0_1536) (sAt x4 1536 inb_S1x8x8192_S1x8x512_0_0_1536) := by
  simp only [runB.sl.r_27, runB.sl.r_23, runB.sl.r_24, runB.sl.r_25, runB.sl.r_26, readAt_whole]
  exact score_3 _ _ _

/-- The store of chunk 4 holds its scores. -/
theorem runB_score_4 : k0_pay65 (runB.sl.r_1 c arg1 harg1 x0) (runB.sl.r_28 c arg4 harg4 x3) (runB.sl.r_29 c arg5 harg5 x4) (runB.sl.r_30 c arg4 harg4 arg5 harg5 x3 x4) (runB.sl.r_31 c arg4 harg4 arg5 harg5 x3 x4) (runB.sl.r_32 c arg4 harg4 arg5 harg5 x3 x4) (runB.sl.r_33 c arg4 harg4 arg5 harg5 x3 x4) (runB.sl.r_34 c arg4 harg4 arg5 harg5 x3 x4) (runB.sl.r_35 c arg4 harg4 arg5 harg5 x3 x4) (runB.sl.r_36 c arg4 harg4 arg5 harg5 x3 x4) = score (runB.sl.r_1 c arg1 harg1 x0) (cAt x3 2048 inb_S1x512x8192_S1x512x512_0_0_2048) (sAt x4 2048 inb_S1x8x8192_S1x8x512_0_0_2048) := by
  simp only [runB.sl.r_28, runB.sl.r_29, runB.sl.r_30, runB.sl.r_31, runB.sl.r_32, runB.sl.r_33, runB.sl.r_34, runB.sl.r_35, runB.sl.r_36, readAt_whole]
  exact score_4 _ _ _

/-- The store of chunk 5 holds its scores. -/
theorem runB_score_5 : k0_pay72 (runB.sl.r_1 c arg1 harg1 x0) (runB.sl.r_37 c arg4 harg4 x3) (runB.sl.r_38 c arg5 harg5 x4) (runB.sl.r_39 c arg4 harg4 arg5 harg5 x3 x4) (runB.sl.r_40 c arg4 harg4 arg5 harg5 x3 x4) (runB.sl.r_41 c arg4 harg4 arg5 harg5 x3 x4) (runB.sl.r_42 c arg5 harg5 x4) = score (runB.sl.r_1 c arg1 harg1 x0) (cAt x3 2560 inb_S1x512x8192_S1x512x512_0_0_2560) (sAt x4 2560 inb_S1x8x8192_S1x8x512_0_0_2560) := by
  simp only [runB.sl.r_37, runB.sl.r_38, runB.sl.r_39, runB.sl.r_40, runB.sl.r_41, runB.sl.r_42, readAt_whole]
  exact score_5 _ _ _

/-- The store of chunk 6 holds its scores. -/
theorem runB_score_6 : k0_pay77 (runB.sl.r_1 c arg1 harg1 x0) (runB.sl.r_45 c arg4 harg4 arg5 harg5 x3 x4) (runB.sl.r_46 c arg1 harg1 x0) (runB.sl.r_47 c arg4 harg4 arg5 harg5 x3 x4) = score (runB.sl.r_1 c arg1 harg1 x0) (cAt x3 3072 inb_S1x512x8192_S1x512x512_0_0_3072) (sAt x4 3072 inb_S1x8x8192_S1x8x512_0_0_3072) := by
  simp only [runB.sl.r_45, runB.sl.r_43, runB.sl.r_44, runB.sl.r_46, runB.sl.r_47, readAt_whole]
  exact score_6 _ _ _

/-- The store of chunk 7 holds its scores. -/
theorem runB_score_7 : k0_pay86 (runB.sl.r_1 c arg1 harg1 x0) (runB.sl.r_48 c arg4 harg4 x3) (runB.sl.r_49 c arg5 harg5 x4) (runB.sl.r_50 c arg4 harg4 arg5 harg5 x3 x4) (runB.sl.r_51 c arg4 harg4 arg5 harg5 x3 x4) (runB.sl.r_52 c arg4 harg4 arg5 harg5 x3 x4) (runB.sl.r_53 c arg4 harg4 arg5 harg5 x3 x4) (runB.sl.r_54 c arg5 harg5 x4) (runB.sl.r_55 c arg4 harg4 x3) = score (runB.sl.r_1 c arg1 harg1 x0) (cAt x3 3584 inb_S1x512x8192_S1x512x512_0_0_3584) (sAt x4 3584 inb_S1x8x8192_S1x8x512_0_0_3584) := by
  simp only [runB.sl.r_48, runB.sl.r_49, runB.sl.r_50, runB.sl.r_51, runB.sl.r_52, runB.sl.r_53, runB.sl.r_54, runB.sl.r_55, readAt_whole]
  exact score_7 _ _ _

/-- The store of chunk 8 holds its scores. -/
theorem runB_score_8 : k0_pay92 (runB.sl.r_60 c arg1 harg1 arg4 harg4 arg5 harg5 x0 x3 x4) = score (runB.sl.r_1 c arg1 harg1 x0) (cAt x3 4096 inb_S1x512x8192_S1x512x512_0_0_4096) (sAt x4 4096 inb_S1x8x8192_S1x8x512_0_0_4096) := by
  simp only [runB.sl.r_60, runB.sl.r_56, runB.sl.r_57, runB.sl.r_58, runB.sl.r_59, readAt_whole]
  exact score_8 _ _ _

/-- The store of chunk 9 holds its scores. -/
theorem runB_score_9 : k0_pay102 (runB.sl.r_1 c arg1 harg1 x0) (runB.sl.r_61 c arg4 harg4 x3) (runB.sl.r_62 c arg5 harg5 x4) (runB.sl.r_63 c arg4 harg4 arg5 harg5 x3 x4) (runB.sl.r_64 c arg4 harg4 arg5 harg5 x3 x4) (runB.sl.r_65 c arg4 harg4 arg5 harg5 x3 x4) (runB.sl.r_66 c arg4 harg4 arg5 harg5 x3 x4) (runB.sl.r_67 c arg4 harg4 arg5 harg5 x3 x4) (runB.sl.r_68 c arg4 harg4 arg5 harg5 x3 x4) (runB.sl.r_69 c arg5 harg5 x4) = score (runB.sl.r_1 c arg1 harg1 x0) (cAt x3 4608 inb_S1x512x8192_S1x512x512_0_0_4608) (sAt x4 4608 inb_S1x8x8192_S1x8x512_0_0_4608) := by
  simp only [runB.sl.r_61, runB.sl.r_62, runB.sl.r_63, runB.sl.r_64, runB.sl.r_65, runB.sl.r_66, runB.sl.r_67, runB.sl.r_68, runB.sl.r_69, readAt_whole]
  exact score_9 _ _ _

/-- The store of chunk 10 holds its scores. -/
theorem runB_score_10 : k0_pay109 (runB.sl.r_1 c arg1 harg1 x0) (runB.sl.r_70 c arg4 harg4 x3) (runB.sl.r_71 c arg5 harg5 x4) (runB.sl.r_72 c arg4 harg4 arg5 harg5 x3 x4) (runB.sl.r_73 c arg4 harg4 arg5 harg5 x3 x4) (runB.sl.r_74 c arg5 harg5 x4) (runB.sl.r_75 c arg4 harg4 x3) = score (runB.sl.r_1 c arg1 harg1 x0) (cAt x3 5120 inb_S1x512x8192_S1x512x512_0_0_5120) (sAt x4 5120 inb_S1x8x8192_S1x8x512_0_0_5120) := by
  simp only [runB.sl.r_70, runB.sl.r_71, runB.sl.r_72, runB.sl.r_73, runB.sl.r_74, runB.sl.r_75, readAt_whole]
  exact score_10 _ _ _

/-- The store of chunk 11 holds its scores. -/
theorem runB_score_11 : k0_pay121 (runB.sl.r_1 c arg1 harg1 x0) (runB.sl.r_77 c arg4 harg4 arg5 harg5 x3 x4) (runB.sl.r_78 c arg4 harg4 arg5 harg5 x3 x4) (runB.sl.r_79 c arg4 harg4 arg5 harg5 x3 x4) (runB.sl.r_80 c arg4 harg4 arg5 harg5 x3 x4) (runB.sl.r_81 c arg4 harg4 arg5 harg5 x3 x4) (runB.sl.r_82 c arg4 harg4 arg5 harg5 x3 x4) (runB.sl.r_83 c arg4 harg4 arg5 harg5 x3 x4) (runB.sl.r_84 c arg5 harg5 x4) (runB.sl.r_85 c arg4 harg4 x3) = score (runB.sl.r_1 c arg1 harg1 x0) (cAt x3 5632 inb_S1x512x8192_S1x512x512_0_0_5632) (sAt x4 5632 inb_S1x8x8192_S1x8x512_0_0_5632) := by
  simp only [runB.sl.r_77, runB.sl.r_76, runB.sl.r_78, runB.sl.r_79, runB.sl.r_80, runB.sl.r_81, runB.sl.r_82, runB.sl.r_83, runB.sl.r_84, runB.sl.r_85, readAt_whole]
  exact score_11 _ _ _

/-- The store of chunk 12 holds its scores. -/
theorem runB_score_12 : k0_pay129 (runB.sl.r_1 c arg1 harg1 x0) (runB.sl.r_86 c arg4 harg4 x3) (runB.sl.r_87 c arg5 harg5 x4) (runB.sl.r_88 c arg4 harg4 arg5 harg5 x3 x4) (runB.sl.r_89 c arg4 harg4 arg5 harg5 x3 x4) (runB.sl.r_90 c arg4 harg4 arg5 harg5 x3 x4) (runB.sl.r_91 c arg4 harg4 arg5 harg5 x3 x4) (runB.sl.r_92 c arg5 harg5 x4) = score (runB.sl.r_1 c arg1 harg1 x0) (cAt x3 6144 inb_S1x512x8192_S1x512x512_0_0_6144) (sAt x4 6144 inb_S1x8x8192_S1x8x512_0_0_6144) := by
  simp only [runB.sl.r_86, runB.sl.r_87, runB.sl.r_88, runB.sl.r_89, runB.sl.r_90, runB.sl.r_91, runB.sl.r_92, readAt_whole]
  exact score_12 _ _ _

/-- The store of chunk 13 holds its scores. -/
theorem runB_score_13 : k0_pay137 (runB.sl.r_96 c arg1 harg1 arg4 harg4 arg5 harg5 x0 x3 x4) (runB.sl.r_97 c arg1 harg1 x0) (runB.sl.r_98 c arg4 harg4 arg5 harg5 x3 x4) runB.sl.cst_31 = score (runB.sl.r_1 c arg1 harg1 x0) (cAt x3 6656 inb_S1x512x8192_S1x512x512_0_0_6656) (sAt x4 6656 inb_S1x8x8192_S1x8x512_0_0_6656) := by
  simp only [runB.sl.r_96, runB.sl.r_93, runB.sl.r_94, runB.sl.r_95, runB.sl.r_97, runB.sl.r_98, runB.sl.cst_31, readAt_whole]
  exact score_13 _ _ _

/-- The store of chunk 14 holds its scores. -/
theorem runB_score_14 : k0_pay146 (runB.sl.r_1 c arg1 harg1 x0) (runB.sl.r_99 c arg4 harg4 x3) (runB.sl.r_100 c arg5 harg5 x4) (runB.sl.r_101 c arg4 harg4 arg5 harg5 x3 x4) (runB.sl.r_102 c arg4 harg4 arg5 harg5 x3 x4) (runB.sl.r_103 c arg4 harg4 arg5 harg5 x3 x4) (runB.sl.r_104 c arg4 harg4 arg5 harg5 x3 x4) (runB.sl.r_105 c arg4 harg4 arg5 harg5 x3 x4) (runB.sl.r_106 c arg5 harg5 x4) = score (runB.sl.r_1 c arg1 harg1 x0) (cAt x3 7168 inb_S1x512x8192_S1x512x512_0_0_7168) (sAt x4 7168 inb_S1x8x8192_S1x8x512_0_0_7168) := by
  simp only [runB.sl.r_99, runB.sl.r_100, runB.sl.r_101, runB.sl.r_102, runB.sl.r_103, runB.sl.r_104, runB.sl.r_105, runB.sl.r_106, readAt_whole]
  exact score_14 _ _ _

/-- The store of chunk 15 holds its scores. -/
theorem runB_score_15 : runB.sl.r_111 c arg1 harg1 arg4 harg4 arg5 harg5 x0 x3 x4 = score (runB.sl.r_1 c arg1 harg1 x0) (cAt x3 7680 inb_S1x512x8192_S1x512x512_0_0_7680) (sAt x4 7680 inb_S1x8x8192_S1x8x512_0_0_7680) := by
  simp only [runB.sl.r_111, runB.sl.r_107, runB.sl.r_108, runB.sl.r_109, runB.sl.r_110, readAt_whole]
  exact score_15 _ _ _

/-- The store of the new keys' scores. -/
theorem runB_new : k0_pay152 (BitVec.ofNat 32 ↑(i 0)) (runB.sl.r_1 c arg1 harg1 x0) (View.readAt (Elt F) arg14.view (Rect.unit ![0, 0] S512x128.size inb_S512x128_S512x128_0_0).toLoadRect (harg14.unread y13)) = k0_pay152 (BitVec.ofNat 32 (i 0).val) (runB.sl.r_1 c arg1 harg1 x0) y13 := by
  simp only [readAt_whole, ld_full_d]

/-- The score buffer read back. -/
theorem runB_s : (runB.sl.v1245 c i arg1 harg1 arg4 harg4 arg5 harg5 arg13 arg14 harg14 x0 x3 x4 y13) = sBuf (BitVec.ofNat 32 (i 0).val) (qbd x0) x3 x4 y13 := by
  unfold runB.sl.v1245 runB.sl.H12_17
  rw [readCov_s, runB_new, runB_score_15, runB_score_14, runB_score_13, runB_score_12, runB_score_11, runB_score_10, runB_score_9, runB_score_8, runB_score_7, runB_score_6, runB_score_5, runB_score_4, runB_score_3, runB_score_2, runB_score_1, runB_score_0, runB_q]
  rfl

/-- The attention sum starts at the new values. -/
theorem runB_o : (runB.sl.r_114 c i arg1 harg1 arg4 harg4 arg5 harg5 arg13 arg14 harg14 arg15 harg15 x0 x3 x4 y13 y14) = k0_pay156 (runB.sl.v1245 c i arg1 harg1 arg4 harg4 arg5 harg5 arg13 arg14 harg14 x0 x3 x4 y13) y14 := by
  simp only [runB.sl.r_114, readAt_whole, ld_full_d, ld_full_n, readCov_full_d]

/-- The attention sum after chunk 0. -/
theorem runB_attend_0 : (runB.sl.r_118 c i arg1 harg1 arg4 harg4 arg5 harg5 arg6 harg6 arg7 harg7 arg13 arg14 harg14 arg15 harg15 x0 x3 x4 x5 x6 y13 y14) = attend (runB.sl.r_114 c i arg1 harg1 arg4 harg4 arg5 harg5 arg13 arg14 harg14 arg15 harg15 x0 x3 x4 y13 y14) (runB.sl.r_113 c i arg1 harg1 arg4 harg4 arg5 harg5 arg13 arg14 harg14 x0 x3 x4 y13) 0 slices_S32x8320_o0_0_S32x512 (cAt x5 0 inb_S1x512x8192_S1x512x512_0_0_0) (sAt x6 0 inb_S1x8x8192_S1x8x512_0_0_0) := by
  simp only [runB.sl.r_118, runB.sl.r_115, runB.sl.r_116, runB.sl.r_117, readAt_whole]
  exact attend_0 _ _ _ _

/-- The attention sum after chunk 1. -/
theorem runB_attend_1 : (runB.sl.r_128 c i arg1 harg1 arg4 harg4 arg5 harg5 arg6 harg6 arg7 harg7 arg13 arg14 harg14 arg15 harg15 x0 x3 x4 x5 x6 y13 y14) = attend (runB.sl.r_118 c i arg1 harg1 arg4 harg4 arg5 harg5 arg6 harg6 arg7 harg7 arg13 arg14 harg14 arg15 harg15 x0 x3 x4 x5 x6 y13 y14) (runB.sl.r_113 c i arg1 harg1 arg4 harg4 arg5 harg5 arg13 arg14 harg14 x0 x3 x4 y13) 512 slices_S32x8320_o0_512_S32x512 (cAt x5 512 inb_S1x512x8192_S1x512x512_0_0_512) (sAt x6 512 inb_S1x8x8192_S1x8x512_0_0_512) := by
  simp only [runB.sl.r_128, runB.sl.r_119, runB.sl.r_120, runB.sl.r_121, runB.sl.r_122, runB.sl.r_123, runB.sl.r_124, runB.sl.r_125, runB.sl.r_126, runB.sl.r_127, readAt_whole]
  exact attend_1 _ _ _ _

/-- The attention sum after chunk 2. -/
theorem runB_attend_2 : (runB.sl.r_138 c i arg1 harg1 arg4 harg4 arg5 harg5 arg6 harg6 arg7 harg7 arg13 arg14 harg14 arg15 harg15 x0 x3 x4 x5 x6 y13 y14) = attend (runB.sl.r_128 c i arg1 harg1 arg4 harg4 arg5 harg5 arg6 harg6 arg7 harg7 arg13 arg14 harg14 arg15 harg15 x0 x3 x4 x5 x6 y13 y14) (runB.sl.r_113 c i arg1 harg1 arg4 harg4 arg5 harg5 arg13 arg14 harg14 x0 x3 x4 y13) 1024 slices_S32x8320_o0_1024_S32x512 (cAt x5 1024 inb_S1x512x8192_S1x512x512_0_0_1024) (sAt x6 1024 inb_S1x8x8192_S1x8x512_0_0_1024) := by
  simp only [runB.sl.r_138, runB.sl.r_129, runB.sl.r_130, runB.sl.r_131, runB.sl.r_132, runB.sl.r_133, runB.sl.r_134, runB.sl.r_135, runB.sl.r_136, runB.sl.r_137, readAt_whole]
  exact attend_2 _ _ _ _

/-- The attention sum after chunk 3. -/
theorem runB_attend_3 : (runB.sl.r_146 c i arg1 harg1 arg4 harg4 arg5 harg5 arg6 harg6 arg7 harg7 arg13 arg14 harg14 arg15 harg15 x0 x3 x4 x5 x6 y13 y14) = attend (runB.sl.r_138 c i arg1 harg1 arg4 harg4 arg5 harg5 arg6 harg6 arg7 harg7 arg13 arg14 harg14 arg15 harg15 x0 x3 x4 x5 x6 y13 y14) (runB.sl.r_113 c i arg1 harg1 arg4 harg4 arg5 harg5 arg13 arg14 harg14 x0 x3 x4 y13) 1536 slices_S32x8320_o0_1536_S32x512 (cAt x5 1536 inb_S1x512x8192_S1x512x512_0_0_1536) (sAt x6 1536 inb_S1x8x8192_S1x8x512_0_0_1536) := by
  simp only [runB.sl.r_146, runB.sl.r_139, runB.sl.r_140, runB.sl.r_141, runB.sl.r_142, runB.sl.r_143, runB.sl.r_144, runB.sl.r_145, readAt_whole]
  exact attend_3 _ _ _ _

/-- The attention sum after chunk 4. -/
theorem runB_attend_4 : (runB.sl.r_153 c i arg1 harg1 arg4 harg4 arg5 harg5 arg6 harg6 arg7 harg7 arg13 arg14 harg14 arg15 harg15 x0 x3 x4 x5 x6 y13 y14) = attend (runB.sl.r_146 c i arg1 harg1 arg4 harg4 arg5 harg5 arg6 harg6 arg7 harg7 arg13 arg14 harg14 arg15 harg15 x0 x3 x4 x5 x6 y13 y14) (runB.sl.r_113 c i arg1 harg1 arg4 harg4 arg5 harg5 arg13 arg14 harg14 x0 x3 x4 y13) 2048 slices_S32x8320_o0_2048_S32x512 (cAt x5 2048 inb_S1x512x8192_S1x512x512_0_0_2048) (sAt x6 2048 inb_S1x8x8192_S1x8x512_0_0_2048) := by
  simp only [runB.sl.r_153, runB.sl.r_147, runB.sl.r_148, runB.sl.r_149, runB.sl.r_150, runB.sl.r_151, runB.sl.r_152, readAt_whole]
  exact attend_4 _ _ _ _

/-- The attention sum after chunk 5. -/
theorem runB_attend_5 : (runB.sl.r_158 c i arg1 harg1 arg4 harg4 arg5 harg5 arg6 harg6 arg7 harg7 arg13 arg14 harg14 arg15 harg15 x0 x3 x4 x5 x6 y13 y14) = attend (runB.sl.r_153 c i arg1 harg1 arg4 harg4 arg5 harg5 arg6 harg6 arg7 harg7 arg13 arg14 harg14 arg15 harg15 x0 x3 x4 x5 x6 y13 y14) (runB.sl.r_113 c i arg1 harg1 arg4 harg4 arg5 harg5 arg13 arg14 harg14 x0 x3 x4 y13) 2560 slices_S32x8320_o0_2560_S32x512 (cAt x5 2560 inb_S1x512x8192_S1x512x512_0_0_2560) (sAt x6 2560 inb_S1x8x8192_S1x8x512_0_0_2560) := by
  simp only [runB.sl.r_158, runB.sl.r_154, runB.sl.r_155, runB.sl.r_156, runB.sl.r_157, readAt_whole]
  exact attend_5 _ _ _ _

/-- The attention sum after chunk 6. -/
theorem runB_attend_6 : (runB.sl.r_161 c i arg1 harg1 arg4 harg4 arg5 harg5 arg6 harg6 arg7 harg7 arg13 arg14 harg14 arg15 harg15 x0 x3 x4 x5 x6 y13 y14) = attend (runB.sl.r_158 c i arg1 harg1 arg4 harg4 arg5 harg5 arg6 harg6 arg7 harg7 arg13 arg14 harg14 arg15 harg15 x0 x3 x4 x5 x6 y13 y14) (runB.sl.r_113 c i arg1 harg1 arg4 harg4 arg5 harg5 arg13 arg14 harg14 x0 x3 x4 y13) 3072 slices_S32x8320_o0_3072_S32x512 (cAt x5 3072 inb_S1x512x8192_S1x512x512_0_0_3072) (sAt x6 3072 inb_S1x8x8192_S1x8x512_0_0_3072) := by
  simp only [runB.sl.r_161, runB.sl.r_160, runB.sl.r_159, readAt_whole]
  exact attend_6 _ _ _ _

/-- The attention sum after chunk 7. -/
theorem runB_attend_7 : (runB.sl.r_171 c i arg1 harg1 arg4 harg4 arg5 harg5 arg6 harg6 arg7 harg7 arg13 arg14 harg14 arg15 harg15 x0 x3 x4 x5 x6 y13 y14) = attend (runB.sl.r_161 c i arg1 harg1 arg4 harg4 arg5 harg5 arg6 harg6 arg7 harg7 arg13 arg14 harg14 arg15 harg15 x0 x3 x4 x5 x6 y13 y14) (runB.sl.r_113 c i arg1 harg1 arg4 harg4 arg5 harg5 arg13 arg14 harg14 x0 x3 x4 y13) 3584 slices_S32x8320_o0_3584_S32x512 (cAt x5 3584 inb_S1x512x8192_S1x512x512_0_0_3584) (sAt x6 3584 inb_S1x8x8192_S1x8x512_0_0_3584) := by
  simp only [runB.sl.r_171, runB.sl.r_162, runB.sl.r_163, runB.sl.r_164, runB.sl.r_165, runB.sl.r_166, runB.sl.r_167, runB.sl.r_168, runB.sl.r_169, runB.sl.r_170, readAt_whole]
  exact attend_7 _ _ _ _

/-- The attention sum after chunk 8. -/
theorem runB_attend_8 : (runB.sl.r_179 c i arg1 harg1 arg4 harg4 arg5 harg5 arg6 harg6 arg7 harg7 arg13 arg14 harg14 arg15 harg15 x0 x3 x4 x5 x6 y13 y14) = attend (runB.sl.r_171 c i arg1 harg1 arg4 harg4 arg5 harg5 arg6 harg6 arg7 harg7 arg13 arg14 harg14 arg15 harg15 x0 x3 x4 x5 x6 y13 y14) (runB.sl.r_113 c i arg1 harg1 arg4 harg4 arg5 harg5 arg13 arg14 harg14 x0 x3 x4 y13) 4096 slices_S32x8320_o0_4096_S32x512 (cAt x5 4096 inb_S1x512x8192_S1x512x512_0_0_4096) (sAt x6 4096 inb_S1x8x8192_S1x8x512_0_0_4096) := by
  simp only [runB.sl.r_179, runB.sl.r_172, runB.sl.r_173, runB.sl.r_174, runB.sl.r_175, runB.sl.r_176, runB.sl.r_177, runB.sl.r_178, readAt_whole]
  exact attend_8 _ _ _ _

/-- The attention sum after chunk 9. -/
theorem runB_attend_9 : (runB.sl.r_186 c i arg1 harg1 arg4 harg4 arg5 harg5 arg6 harg6 arg7 harg7 arg13 arg14 harg14 arg15 harg15 x0 x3 x4 x5 x6 y13 y14) = attend (runB.sl.r_179 c i arg1 harg1 arg4 harg4 arg5 harg5 arg6 harg6 arg7 harg7 arg13 arg14 harg14 arg15 harg15 x0 x3 x4 x5 x6 y13 y14) (runB.sl.r_113 c i arg1 harg1 arg4 harg4 arg5 harg5 arg13 arg14 harg14 x0 x3 x4 y13) 4608 slices_S32x8320_o0_4608_S32x512 (cAt x5 4608 inb_S1x512x8192_S1x512x512_0_0_4608) (sAt x6 4608 inb_S1x8x8192_S1x8x512_0_0_4608) := by
  simp only [runB.sl.r_186, runB.sl.r_180, runB.sl.r_181, runB.sl.r_182, runB.sl.r_183, runB.sl.r_184, runB.sl.r_185, readAt_whole]
  exact attend_9 _ _ _ _

/-- The attention sum after chunk 10. -/
theorem runB_attend_10 : (runB.sl.r_192 c i arg1 harg1 arg4 harg4 arg5 harg5 arg6 harg6 arg7 harg7 arg13 arg14 harg14 arg15 harg15 x0 x3 x4 x5 x6 y13 y14) = attend (runB.sl.r_186 c i arg1 harg1 arg4 harg4 arg5 harg5 arg6 harg6 arg7 harg7 arg13 arg14 harg14 arg15 harg15 x0 x3 x4 x5 x6 y13 y14) (runB.sl.r_113 c i arg1 harg1 arg4 harg4 arg5 harg5 arg13 arg14 harg14 x0 x3 x4 y13) 5120 slices_S32x8320_o0_5120_S32x512 (cAt x5 5120 inb_S1x512x8192_S1x512x512_0_0_5120) (sAt x6 5120 inb_S1x8x8192_S1x8x512_0_0_5120) := by
  simp only [runB.sl.r_192, runB.sl.r_187, runB.sl.r_188, runB.sl.r_189, runB.sl.r_190, runB.sl.r_191, readAt_whole]
  exact attend_10 _ _ _ _

/-- The attention sum after chunk 11. -/
theorem runB_attend_11 : (runB.sl.r_196 c i arg1 harg1 arg4 harg4 arg5 harg5 arg6 harg6 arg7 harg7 arg13 arg14 harg14 arg15 harg15 x0 x3 x4 x5 x6 y13 y14) = attend (runB.sl.r_192 c i arg1 harg1 arg4 harg4 arg5 harg5 arg6 harg6 arg7 harg7 arg13 arg14 harg14 arg15 harg15 x0 x3 x4 x5 x6 y13 y14) (runB.sl.r_113 c i arg1 harg1 arg4 harg4 arg5 harg5 arg13 arg14 harg14 x0 x3 x4 y13) 5632 slices_S32x8320_o0_5632_S32x512 (cAt x5 5632 inb_S1x512x8192_S1x512x512_0_0_5632) (sAt x6 5632 inb_S1x8x8192_S1x8x512_0_0_5632) := by
  simp only [runB.sl.r_196, runB.sl.r_193, runB.sl.r_194, runB.sl.r_195, readAt_whole]
  exact attend_11 _ _ _ _

/-- The attention sum after chunk 12. -/
theorem runB_attend_12 : (runB.sl.r_206 c i arg1 harg1 arg4 harg4 arg5 harg5 arg6 harg6 arg7 harg7 arg13 arg14 harg14 arg15 harg15 x0 x3 x4 x5 x6 y13 y14) = attend (runB.sl.r_196 c i arg1 harg1 arg4 harg4 arg5 harg5 arg6 harg6 arg7 harg7 arg13 arg14 harg14 arg15 harg15 x0 x3 x4 x5 x6 y13 y14) (runB.sl.r_113 c i arg1 harg1 arg4 harg4 arg5 harg5 arg13 arg14 harg14 x0 x3 x4 y13) 6144 slices_S32x8320_o0_6144_S32x512 (cAt x5 6144 inb_S1x512x8192_S1x512x512_0_0_6144) (sAt x6 6144 inb_S1x8x8192_S1x8x512_0_0_6144) := by
  simp only [runB.sl.r_206, runB.sl.r_197, runB.sl.r_198, runB.sl.r_199, runB.sl.r_200, runB.sl.r_201, runB.sl.r_202, runB.sl.r_203, runB.sl.r_204, runB.sl.r_205, readAt_whole]
  exact attend_12 _ _ _ _

/-- The attention sum after chunk 13. -/
theorem runB_attend_13 : (runB.sl.r_216 c i arg1 harg1 arg4 harg4 arg5 harg5 arg6 harg6 arg7 harg7 arg13 arg14 harg14 arg15 harg15 x0 x3 x4 x5 x6 y13 y14) = attend (runB.sl.r_206 c i arg1 harg1 arg4 harg4 arg5 harg5 arg6 harg6 arg7 harg7 arg13 arg14 harg14 arg15 harg15 x0 x3 x4 x5 x6 y13 y14) (runB.sl.r_113 c i arg1 harg1 arg4 harg4 arg5 harg5 arg13 arg14 harg14 x0 x3 x4 y13) 6656 slices_S32x8320_o0_6656_S32x512 (cAt x5 6656 inb_S1x512x8192_S1x512x512_0_0_6656) (sAt x6 6656 inb_S1x8x8192_S1x8x512_0_0_6656) := by
  simp only [runB.sl.r_216, runB.sl.r_207, runB.sl.r_208, runB.sl.r_209, runB.sl.r_210, runB.sl.r_211, runB.sl.r_212, runB.sl.r_213, runB.sl.r_214, runB.sl.r_215, readAt_whole]
  exact attend_13 _ _ _ _

/-- The attention sum after chunk 14. -/
theorem runB_attend_14 : (runB.sl.r_224 c i arg1 harg1 arg4 harg4 arg5 harg5 arg6 harg6 arg7 harg7 arg13 arg14 harg14 arg15 harg15 x0 x3 x4 x5 x6 y13 y14) = attend (runB.sl.r_216 c i arg1 harg1 arg4 harg4 arg5 harg5 arg6 harg6 arg7 harg7 arg13 arg14 harg14 arg15 harg15 x0 x3 x4 x5 x6 y13 y14) (runB.sl.r_113 c i arg1 harg1 arg4 harg4 arg5 harg5 arg13 arg14 harg14 x0 x3 x4 y13) 7168 slices_S32x8320_o0_7168_S32x512 (cAt x5 7168 inb_S1x512x8192_S1x512x512_0_0_7168) (sAt x6 7168 inb_S1x8x8192_S1x8x512_0_0_7168) := by
  simp only [runB.sl.r_224, runB.sl.r_217, runB.sl.r_218, runB.sl.r_219, runB.sl.r_220, runB.sl.r_221, runB.sl.r_222, runB.sl.r_223, readAt_whole]
  exact attend_14 _ _ _ _

/-- The attention sum after chunk 15. -/
theorem runB_attend_15 : (runB.sl.r_230 c i arg1 harg1 arg4 harg4 arg5 harg5 arg6 harg6 arg7 harg7 arg13 arg14 harg14 arg15 harg15 x0 x3 x4 x5 x6 y13 y14) = attend (runB.sl.r_224 c i arg1 harg1 arg4 harg4 arg5 harg5 arg6 harg6 arg7 harg7 arg13 arg14 harg14 arg15 harg15 x0 x3 x4 x5 x6 y13 y14) (runB.sl.r_113 c i arg1 harg1 arg4 harg4 arg5 harg5 arg13 arg14 harg14 x0 x3 x4 y13) 7680 slices_S32x8320_o0_7680_S32x512 (cAt x5 7680 inb_S1x512x8192_S1x512x512_0_0_7680) (sAt x6 7680 inb_S1x8x8192_S1x8x512_0_0_7680) := by
  simp only [runB.sl.r_230, runB.sl.r_225, runB.sl.r_226, runB.sl.r_227, runB.sl.r_228, runB.sl.r_229, readAt_whole]
  exact attend_15 _ _ _ _

/-- The last word. -/
theorem runB_y : (runB.sl.r_233 c i arg1 harg1 arg4 harg4 arg5 harg5 arg6 harg6 arg7 harg7 arg13 arg14 harg14 arg15 harg15 x0 x3 x4 x5 x6 y13 y14) = finish (runB.sl.r_112 c i arg1 harg1 arg4 harg4 arg5 harg5 arg13 arg14 harg14 x0 x3 x4 y13) (runB.sl.r_230 c i arg1 harg1 arg4 harg4 arg5 harg5 arg6 harg6 arg7 harg7 arg13 arg14 harg14 arg15 harg15 x0 x3 x4 x5 x6 y13 y14) := by
  simp only [runB.sl.r_233, runB.sl.r_231, runB.sl.v2281, runB.sl.v2282, runB.sl.r_232]
  rfl

/-- The block of the attention output. -/
theorem runB_out : k0_pay1 (runB.sl.r_233 c i arg1 harg1 arg4 harg4 arg5 harg5 arg6 harg6 arg7 harg7 arg13 arg14 harg14 arg15 harg15 x0 x3 x4 x5 x6 y13 y14) = yOut (BitVec.ofNat 32 (i 0).val) x0 x3 x4 x5 x6 y13 y14 := by
  rw [runB_y, runB_attend_15, runB_attend_14, runB_attend_13, runB_attend_12, runB_attend_11, runB_attend_10, runB_attend_9, runB_attend_8, runB_attend_7, runB_attend_6, runB_attend_5, runB_attend_4, runB_attend_3, runB_attend_2, runB_attend_1, runB_attend_0, runB_o]
  unfold runB.sl.r_113 runB.sl.r_112
  rw [runB_s]
  rfl

/-- What the grid point stores into its block of the attention output. -/
theorem runB_pieces : (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 y8 y9 y10 y11 y13 y14).1 = [⟨Rect.unit ![0, 0, 0] S1x32x64.size inb_S1x32x64_S1x32x64_0_0_0, yOut (BitVec.ofNat 32 (i 0).val) x0 x3 x4 x5 x6 y13 y14⟩] := by
  unfold runB
  dsimp only
  rw [runB_out]

end Cert.KernelIdeal.Hand

end
-- ==== Proof.KDat.lean ====
module

public import proofs.«01_k».proof.Proof.KReadA
public import proofs.«01_k».proof.Proof.KReadB
public import Idealize.ShloMosaic.Lib.Claim

@[expose] public section

/-! The pipeline's proof data: what each window's buffer holds after each grid point, what the carried scratch buffers hold
    between points, and the body obligation at a generic point. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first grid point. -/
def t0 : Fin cfg0.N := ⟨0, by rw [show cfg0.N = 128 from N_0]; decide⟩

/-- The dequantised new keys, from the block the first point finds. -/
def knOf (c : Dev nD) : FVec F S512x128 .bf16 := kNew (iblk m c 1 t0)
/-- The dequantised new values. -/
def vnOf (c : Dev nD) : FVec F S512x128 .bf16 := vNew (iblk m c 2 t0)
/-- The attention output's block at point `t`. -/
def yAt (c : Dev nD) (t : Fin cfg0.N) : Vec F S1x32x64 .bf16 :=
  yOut (BitVec.ofNat 32 (grid0.coords t 0).val) (iblk m c 0 t) (iblk m c 3 t) (iblk m c 4 t) (iblk m c 5 t) (iblk m c 6 t) (knOf m c) (vnOf m c)
/-- The codes of the new keys. -/
def kcOf (c : Dev nD) : Vec F S8x64x128 .i8 := k0_pay4 (iblk m c 1 t0)
/-- The scales of the new keys. -/
def ksOf (c : Dev nD) : Vec F S8x128 .f32 := k0_pay3 (iblk m c 1 t0)
/-- The codes of the new values. -/
def vcOf (c : Dev nD) : Vec F S8x64x128 .i8 := vCode (iblk m c 2 t0)
/-- The scales of the new values. -/
def vsOf (c : Dev nD) : Vec F S8x128 .f32 := vScale (iblk m c 2 t0)

/-- The invariant before position `n`: before the first point the scratch at anything, afterwards the two carried buffers at
    the dequantised new tokens. -/
def PhiS (c : Dev nD) : (n : ℕ) → n ≤ cfg0.N → sProp 𝕄
  | 0, _ => Pipeline.ΦA spec0 c
  | n + 1, hn => iprop(iprop((∃ d, owns (c : Thread nD τ) scM0_0 fullShare d) ∗ owns (c : Thread nD τ) scM0_1 fullShare (knOf m c) ∗ owns (c : Thread nD τ) scM0_2 fullShare (vnOf m c)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop((∃ d, owns (c : Thread nD τ) scM0_0 fullShare d) ∗ owns (c : Thread nD τ) scM0_1 fullShare (knOf m c) ∗ owns (c : Thread nD τ) scM0_2 fullShare (vnOf m c)) ∗ (∃ r, prngReg c r)) := rfl

theorem PhiS_pos (c : Dev nD) (n : ℕ) (h : n ≤ cfg0.N) (hz : n ≠ 0) :
    PhiS m c n h = iprop(iprop((∃ d, owns (c : Thread nD τ) scM0_0 fullShare d) ∗ owns (c : Thread nD τ) scM0_1 fullShare (knOf m c) ∗ owns (c : Thread nD τ) scM0_2 fullShare (vnOf m c)) ∗ (∃ r, prngReg c r)) := by
  cases n with
  | zero => exact absurd rfl hz
  | succ n => rfl

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => yAt m c t
    | ⟨8, _⟩ => kcOf m c
    | ⟨9, _⟩ => ksOf m c
    | ⟨10, _⟩ => vcOf m c
    | ⟨11, _⟩ => vsOf m c
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = yAt m c t := by dsimp only [dats]
theorem after0_8 (c : Dev nD) (t : Fin cfg0.N) : (dats m 0 c).after 8 t = kcOf m c := by dsimp only [dats]
theorem after0_9 (c : Dev nD) (t : Fin cfg0.N) : (dats m 0 c).after 9 t = ksOf m c := by dsimp only [dats]
theorem after0_10 (c : Dev nD) (t : Fin cfg0.N) : (dats m 0 c).after 10 t = vcOf m c := by dsimp only [dats]
theorem after0_11 (c : Dev nD) (t : Fin cfg0.N) : (dats m 0 c).after 11 t = vsOf m c := by dsimp only [dats]

theorem before0_0 (c : Dev nD) (t : Fin cfg0.N) (d) : (dats m 0 c).before 0 t d = iblk m c 0 t :=
  before0_0_of m (dats m 0 c) (A_eq m c 0) (fun t => after0_0 m c t) t d
theorem before0_1 (c : Dev nD) (t : Fin cfg0.N) (d) : (dats m 0 c).before 1 t d = iblk m c 1 t :=
  before0_1_of m (dats m 0 c) (A_eq m c 1) (fun t => after0_1 m c t) t d
theorem before0_2 (c : Dev nD) (t : Fin cfg0.N) (d) : (dats m 0 c).before 2 t d = iblk m c 2 t :=
  before0_2_of m (dats m 0 c) (A_eq m c 2) (fun t => after0_2 m c t) t d
theorem before0_3 (c : Dev nD) (t : Fin cfg0.N) (d) : (dats m 0 c).before 3 t d = iblk m c 3 t :=
  before0_3_of m (dats m 0 c) (A_eq m c 3) (fun t => after0_3 m c t) t d
theorem before0_4 (c : Dev nD) (t : Fin cfg0.N) (d) : (dats m 0 c).before 4 t d = iblk m c 4 t :=
  before0_4_of m (dats m 0 c) (A_eq m c 4) (fun t => after0_4 m c t) t d
theorem before0_5 (c : Dev nD) (t : Fin cfg0.N) (d) : (dats m 0 c).before 5 t d = iblk m c 5 t :=
  before0_5_of m (dats m 0 c) (A_eq m c 5) (fun t => after0_5 m c t) t d
theorem before0_6 (c : Dev nD) (t : Fin cfg0.N) (d) : (dats m 0 c).before 6 t d = iblk m c 6 t :=
  before0_6_of m (dats m 0 c) (A_eq m c 6) (fun t => after0_6 m c t) t d

theorem liveAt0_7 : ∀ t : Fin cfg0.N, cfg0.idle 7 (grid0.coords t) = false := fun _ => rfl
theorem idle0_8 (t : Fin cfg0.N) (h : t.val % 128 = 0) : cfg0.idle 8 (grid0.coords t) = false := by
  have h1 : k0_cond1 (grid0.coords t) = 1#1 := (hcond0_0 t).mpr h
  show (!(k0_cond1 (grid0.coords t) == 1#1)) = false
  rw [h1]; rfl
theorem idle0_9 (t : Fin cfg0.N) (h : t.val % 128 = 0) : cfg0.idle 9 (grid0.coords t) = false := by
  have h1 : k0_cond1 (grid0.coords t) = 1#1 := (hcond0_0 t).mpr h
  show (!(k0_cond1 (grid0.coords t) == 1#1)) = false
  rw [h1]; rfl
theorem idle0_10 (t : Fin cfg0.N) (h : t.val % 128 = 0) : cfg0.idle 10 (grid0.coords t) = false := by
  have h1 : k0_cond1 (grid0.coords t) = 1#1 := (hcond0_0 t).mpr h
  show (!(k0_cond1 (grid0.coords t) == 1#1)) = false
  rw [h1]; rfl
theorem idle0_11 (t : Fin cfg0.N) (h : t.val % 128 = 0) : cfg0.idle 11 (grid0.coords t) = false := by
  have h1 : k0_cond1 (grid0.coords t) = 1#1 := (hcond0_0 t).mpr h
  show (!(k0_cond1 (grid0.coords t) == 1#1)) = false
  rw [h1]; rfl

/-- An output window written at the first point and only handed on afterwards holds, at every later point, what the first
    point wrote. -/
theorem before_kept {c : Dev nD} (dat : Dat τ (Elt F) Unit ℕ (UR sig nD τ) ℕ cfg0 c) (w : Fin cfg0.W) (hw : (cfg0.win w).isOut = true)
    (hclip : ∀ (i : cfg0.grid.Coords) a, (cfg0.win w).clip i a = none)
    (hfl : ∀ t : Fin cfg0.N, (cfg0.win w).flush t = true ↔ t.val % 128 = 127)
    (hid : ∀ t : Fin cfg0.N, t.val % 128 = 0 → cfg0.idle w (cfg0.grid.coords t) = false)
    (C : (cfg0.win w).block.Idx → Elt F (cfg0.win w).elt) (hC : ∀ t, dat.after w t = C) (d) :
    ∀ (n : ℕ) (t : Fin cfg0.N) (_ : t.val = n + 1), dat.before w t d = C
  | n, ⟨tv, htv⟩, ht => by
    simp only at ht; subst ht
    have hN : n < cfg0.N := by omega
    have h128 : cfg0.N = 128 := N_0
    have hf : (cfg0.win w).fetch ⟨n + 1, htv⟩ = false := (cfg0.win w).fetch_out hw _
    rw [dat.before_of_pos w _ (Nat.succ_ne_zero n) hf d]
    have e1 : (⟨n + 1 - 1, Nat.lt_of_le_of_lt (Nat.sub_le _ _) htv⟩ : Fin cfg0.N) = ⟨n, hN⟩ := Fin.ext (by simp)
    rw [e1]
    have hfl' : (cfg0.win w).flush ⟨n, hN⟩ = false := by
      rw [Bool.eq_false_iff]; intro h
      have := (hfl _).mp h
      simp only at this
      omega
    rw [hfl', if_neg Bool.false_ne_true]
    unfold Dat.left
    cases hi : cfg0.idle w (cfg0.grid.coords ⟨n, hN⟩)
    · show dat.kept w ⟨n, hN⟩ d = _
      unfold Dat.kept
      rw [Pipeline.fill_of_clip_none w _ (hclip _) d (dat.after w _), Window.fill_cut, hC]
    · show dat.before w ⟨n, hN⟩ d = _
      cases n with
      | zero => rw [hid _ rfl] at hi; exact absurd hi Bool.false_ne_true
      | succ k => exact before_kept dat w hw hclip hfl hid C hC d k ⟨k + 1, hN⟩ rfl

theorem before0_8 (c : Dev nD) (t : Fin cfg0.N) (ht : t.val ≠ 0) (d) : (dats m 0 c).before 8 t d = kcOf m c :=
  before_kept (dats m 0 c) 8 rfl (fun _ _ => rfl) flush0_8 idle0_8 _ (fun t => after0_8 m c t) d (t.val - 1) t (by omega)

theorem before0_9 (c : Dev nD) (t : Fin cfg0.N) (ht : t.val ≠ 0) (d) : (dats m 0 c).before 9 t d = ksOf m c :=
  before_kept (dats m 0 c) 9 rfl (fun _ _ => rfl) flush0_9 idle0_9 _ (fun t => after0_9 m c t) d (t.val - 1) t (by omega)

theorem before0_10 (c : Dev nD) (t : Fin cfg0.N) (ht : t.val ≠ 0) (d) : (dats m 0 c).before 10 t d = vcOf m c :=
  before_kept (dats m 0 c) 10 rfl (fun _ _ => rfl) flush0_10 idle0_10 _ (fun t => after0_10 m c t) d (t.val - 1) t (by omega)

theorem before0_11 (c : Dev nD) (t : Fin cfg0.N) (ht : t.val ≠ 0) (d) : (dats m 0 c).before 11 t d = vsOf m c :=
  before_kept (dats m 0 c) 11 rfl (fun _ _ => rfl) flush0_11 idle0_11 _ (fun t => after0_11 m c t) d (t.val - 1) t (by omega)

/-- The post of a window handed on: at the contents it was found at. -/
theorem leaves_kept {c : Dev nD} (dat : Dat τ (Elt F) Unit ℕ (UR sig nD τ) ℕ cfg0 c) (w : Fin cfg0.W) (t : Fin cfg0.N)
    (C : (cfg0.win w).block.Idx → Elt F (cfg0.win w).elt) (ha : dat.after w t = C) (hb : ∀ d, dat.before w t d = C) :
    owns (c : Thread nD τ) ((cfg0.win w).stage (cfg0.slots t w)) fullShare C ⊢ dat.leavesExact w t := by
  unfold Dat.leavesExact
  cases cfg0.idle w (cfg0.grid.coords t)
  · show owns (c : Thread nD τ) ((cfg0.win w).stage (cfg0.slots t w)) fullShare C ⊢ owns (c : Thread nD τ) ((cfg0.win w).stage (cfg0.slots t w)) fullShare (dat.after w t)
    rw [ha]
  · cases (cfg0.win w).flush t
    · show owns (c : Thread nD τ) ((cfg0.win w).stage (cfg0.slots t w)) fullShare C ⊢ iprop(∃ d, owns (c : Thread nD τ) ((cfg0.win w).stage (cfg0.slots t w)) fullShare (dat.before w t d))
      iintro H
      iexists C
      rw [hb C]
      iexact H
    · show owns (c : Thread nD τ) ((cfg0.win w).stage (cfg0.slots t w)) fullShare C ⊢ owns (c : Thread nD τ) ((cfg0.win w).stage (cfg0.slots t w)) fullShare (dat.after w t)
      rw [ha]

/-- A buffer after one store through its whole rectangle reads what was stored. -/
theorem read_whole {sg : RefSig} {κ : Kind} {sp : Space} {s : Shape} {e : EltTy} (v : View sg κ sp s e) (f : v.ty.Contents (Elt F)) (L : List (View.Piece (Elt F) s e))
    {off : Fin s.rank → ℕ} (h : off = fun _ => 0) (inb : ∀ a, off a + s.size a ≤ s.size a) (w : s.Idx → Elt F e)
    (hL : L = [⟨Rect.unit off s.size inb, w⟩]) : v.read (Elt F) (v.writes (Elt F) f L) = w := by
  subst hL
  rw [View.read_writes_eq_canon v f _ (fun y => ⟨_, List.mem_singleton_self _, View.mem_set_unit_zero h inb y⟩), View.canon_unit_zero h inb w]

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

set_option maxHeartbeats 9600000 in
/-- The body at any point: the first point fills the quantised outputs and the carried scratch, every later one hands them on. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl]
  rw [show (dats m 0 c).Φ t.succ = PhiS m c (t.val + 1) t.isLt from rfl, PhiS_succ]
  have hN : t.val < 128 := lt_of_lt_of_eq t.isLt (show cfg0.N = 128 from N_0)
  by_cases h0 : t.val % 128 = 0
  · have hz : t.val = 0 := by omega
    have ht : t = t0 := Fin.ext hz
    rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [show (dats m 0 c).leavesExact 6 t = owns (c : Thread nD τ) (ms0_6 t) fullShare ((dats m 0 c).after 6 t) from by
      unfold Dat.leavesExact; rw [liveAt0_6 t], after0_6]
    rw [show (dats m 0 c).leavesExact 7 t = owns (c : Thread nD τ) (ms0_7 t) fullShare ((dats m 0 c).after 7 t) from by
      unfold Dat.leavesExact; rw [liveAt0_7 t], after0_7]
    rw [show (dats m 0 c).leavesExact 8 t = owns (c : Thread nD τ) (ms0_8 t) fullShare ((dats m 0 c).after 8 t) from by
      unfold Dat.leavesExact; rw [idle0_8 t h0], after0_8]
    rw [show (dats m 0 c).leavesExact 9 t = owns (c : Thread nD τ) (ms0_9 t) fullShare ((dats m 0 c).after 9 t) from by
      unfold Dat.leavesExact; rw [idle0_9 t h0], after0_9]
    rw [show (dats m 0 c).leavesExact 10 t = owns (c : Thread nD τ) (ms0_10 t) fullShare ((dats m 0 c).after 10 t) from by
      unfold Dat.leavesExact; rw [idle0_10 t h0], after0_10]
    rw [show (dats m 0 c).leavesExact 11 t = owns (c : Thread nD τ) (ms0_11 t) fullShare ((dats m 0 c).after 11 t) from by
      unfold Dat.leavesExact; rw [idle0_11 t h0], after0_11]
    rw [PhiS_castSucc m c t, PhiS_zero m c _ _ hz, PhiA0_eq]
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((runA c (grid0.coords t) _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t)).2.2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexists _; iexact H10
    isplitl [H11]; · iexists _; iexact H11
    isplitl [HS0]; · iexact HS0
    isplitl [HS1]; · iexact HS1
    isplitl [HS2]; · iexact HS2
    iintro ⟨H0, H1, H2, H3, H4, H5, H6, ⟨%e7, H7⟩, ⟨%e8, H8⟩, ⟨%e9, H9⟩, ⟨%e10, H10⟩, ⟨%e11, H11⟩, HS0, ⟨%es1, HS1⟩, ⟨%es2, HS2⟩⟩
    isplitl [HS0 HS1 HS2 Hg]
    · isplitl [HS0 HS1 HS2]
      · isplitl [HS0]
        · iexact HS0
        isplitl [HS1]
        · unfold owns; iexists _; isplitr
          swap; · iexact HS1
          ipureintro
          subst ht
          exact read_whole _ _ _ (by decide) _ _ (runA_pieces_5 c (grid0.coords t0) _ _ _ _ _ _ _ _ _ _ _ _ _ _ _ _ _ _ _ _ _ _ _ _ _ _ _ _ _ _ ((hcond0_0 t0).mpr h0) (iblk m c 0 t0) (iblk m c 1 t0) (iblk m c 2 t0) (iblk m c 3 t0) (iblk m c 4 t0) (iblk m c 5 t0) (iblk m c 6 t0))
        · unfold owns; iexists _; isplitr
          swap; · iexact HS2
          ipureintro
          subst ht
          exact read_whole _ _ _ (by decide) _ _ (runA_pieces_6 c (grid0.coords t0) _ _ _ _ _ _ _ _ _ _ _ _ _ _ _ _ _ _ _ _ _ _ _ _ _ _ _ _ _ _ ((hcond0_0 t0).mpr h0) (iblk m c 0 t0) (iblk m c 1 t0) (iblk m c 2 t0) (iblk m c 3 t0) (iblk m c 4 t0) (iblk m c 5 t0) (iblk m c 6 t0))
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro
      subst ht
      exact read_whole _ _ _ (by decide) _ _ (runA_pieces c (grid0.coords t0) _ _ _ _ _ _ _ _ _ _ _ _ _ _ _ _ _ _ _ _ _ _ _ _ _ _ _ _ _ _ ((hcond0_0 t0).mpr h0) (iblk m c 0 t0) (iblk m c 1 t0) (iblk m c 2 t0) (iblk m c 3 t0) (iblk m c 4 t0) (iblk m c 5 t0) (iblk m c 6 t0))
    isplitl [H8]
    · unfold owns; iexists _; isplitr
      swap; · iexact H8
      ipureintro
      subst ht
      exact read_whole _ _ _ (by decide) _ _ (runA_pieces_1 c (grid0.coords t0) _ _ _ _ _ _ _ _ _ _ _ _ _ _ _ _ _ _ _ _ _ _ _ _ _ _ _ _ _ _ ((hcond0_0 t0).mpr h0) (iblk m c 0 t0) (iblk m c 1 t0) (iblk m c 2 t0) (iblk m c 3 t0) (iblk m c 4 t0) (iblk m c 5 t0) (iblk m c 6 t0))
    isplitl [H9]
    · unfold owns; iexists _; isplitr
      swap; · iexact H9
      ipureintro
      subst ht
      exact read_whole _ _ _ (by decide) _ _ (runA_pieces_2 c (grid0.coords t0) _ _ _ _ _ _ _ _ _ _ _ _ _ _ _ _ _ _ _ _ _ _ _ _ _ _ _ _ _ _ ((hcond0_0 t0).mpr h0) (iblk m c 0 t0) (iblk m c 1 t0) (iblk m c 2 t0) (iblk m c 3 t0) (iblk m c 4 t0) (iblk m c 5 t0) (iblk m c 6 t0))
    isplitl [H10]
    · unfold owns; iexists _; isplitr
      swap; · iexact H10
      ipureintro
      subst ht
      exact read_whole _ _ _ (by decide) _ _ (runA_pieces_3 c (grid0.coords t0) _ _ _ _ _ _ _ _ _ _ _ _ _ _ _ _ _ _ _ _ _ _ _ _ _ _ _ _ _ _ ((hcond0_0 t0).mpr h0) (iblk m c 0 t0) (iblk m c 1 t0) (iblk m c 2 t0) (iblk m c 3 t0) (iblk m c 4 t0) (iblk m c 5 t0) (iblk m c 6 t0))
    · unfold owns; iexists _; isplitr
      swap; · iexact H11
      ipureintro
      subst ht
      exact read_whole _ _ _ (by decide) _ _ (runA_pieces_4 c (grid0.coords t0) _ _ _ _ _ _ _ _ _ _ _ _ _ _ _ _ _ _ _ _ _ _ _ _ _ _ _ _ _ _ ((hcond0_0 t0).mpr h0) (iblk m c 0 t0) (iblk m c 1 t0) (iblk m c 2 t0) (iblk m c 3 t0) (iblk m c 4 t0) (iblk m c 5 t0) (iblk m c 6 t0))
  · have hz : t.val ≠ 0 := by omega
    rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [show (dats m 0 c).leavesExact 6 t = owns (c : Thread nD τ) (ms0_6 t) fullShare ((dats m 0 c).after 6 t) from by
      unfold Dat.leavesExact; rw [liveAt0_6 t], after0_6]
    rw [show (dats m 0 c).leavesExact 7 t = owns (c : Thread nD τ) (ms0_7 t) fullShare ((dats m 0 c).after 7 t) from by
      unfold Dat.leavesExact; rw [liveAt0_7 t], after0_7]
    simp only [before0_8 m c t hz, before0_9 m c t hz, before0_10 m c t hz, before0_11 m c t hz]
    rw [PhiS_castSucc m c t, PhiS_pos m c _ _ hz]
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((runB c (grid0.coords t) _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (kcOf m c) (ksOf m c) (vcOf m c) (vsOf m c) (knOf m c) (vnOf m c)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    isplitl [H9]; · iexact H9
    isplitl [H10]; · iexact H10
    isplitl [H11]; · iexact H11
    isplitl [HS0]; · iexact HS0
    isplitl [HS1]; · iexact HS1
    isplitl [HS2]; · iexact HS2
    iintro ⟨H0, H1, H2, H3, H4, H5, H6, ⟨%e7, H7⟩, H8, H9, H10, H11, HS0, HS1, HS2⟩
    isplitl [HS0 HS1 HS2 Hg]
    · isplitl [HS0 HS1 HS2]
      · isplitl [HS0]
        · iexact HS0
        isplitl [HS1]
        · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro
      exact read_whole _ _ _ (by decide) _ _ (runB_pieces c (grid0.coords t) _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (kcOf m c) (ksOf m c) (vcOf m c) (vsOf m c) (knOf m c) (vnOf m c))
    isplitl [H8]; · iapply (leaves_kept (dats m 0 c) 8 t _ (after0_8 m c t) (fun d => before0_8 m c t hz d)); iexact H8
    isplitl [H9]; · iapply (leaves_kept (dats m 0 c) 9 t _ (after0_9 m c t) (fun d => before0_9 m c t hz d)); iexact H9
    isplitl [H10]; · iapply (leaves_kept (dats m 0 c) 10 t _ (after0_10 m c t) (fun d => before0_10 m c t hz d)); iexact H10
    iapply (leaves_kept (dats m 0 c) 11 t _ (after0_11 m c t) (fun d => before0_11 m c t hz d)); iexact H11

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the carried contents may be forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]
    · iexact HS0
    isplitl [HS1]
    · iexists _; iexact HS1
    iexists _; iexact HS2
  iexact Hg

theorem hout (c : Dev nD) : (dats m 0 c).Φ (Fin.last cfg0.N) ⊢ Pipeline.ΦA spec0 c :=
  Phi_out m c _ (by rw [Fin.val_last]; have : cfg0.N = 128 := N_0; omega)

set_option backward.isDefEq.respectTransparency.types false in
set_option maxHeartbeats 800000 in
/-- The launch: every fair execution ends, with the pipeline's arrays at what the proof data say, carried through the host
    operations after the region, and every semaphore at zero. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- The frame of the kernel: the arguments end unchanged and every semaphore counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run_main m ρ)) ((θ_run defs _ _).mono (fun _ h => h.2) (run_main_quiescent m ρ))

end Cert.KernelIdeal.Hand

end
-- ==== Proof.KSame.lean ====
module
public import proofs.«01_k».proof.Defs
public import proofs.«01_k».proof.Proof.Gen.Kernel
public import proofs.«01_k».proof.Proof.KDat
@[expose] public section

/-! The frame of the kernel as it is: no operation was rewritten, so the program printed for the ideal instance is the same
    text, and its frame, proved at any values, is the kernel's. -/

noncomputable section
namespace Cert.Kernel.Hand
open Idealize.ShloMosaic Idealize.ShloMosaic.TcCoe Idealize.ShloMosaic.Tactic Idealize.SL.Sem

/-- What a frame says of the kernel, at any values. -/
def FrameK (F : FTy → Type) [FloatOps F] [Cert.Kernel.Facts] : Prop :=
  ∀ (m : (ℓ : Loc Cert.Kernel.nD Cert.Kernel.τ Cert.Kernel.sig) → Buf (Elt F) ℓ) (ρ : Dev Cert.Kernel.nD → PrngReg),
    θ_run (Cert.Kernel.defs (F := F)) (onTc (τ := Cert.Kernel.τ) (Cert.Kernel.main (F := F))) ⟨m, fun _ => 0, ρ⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

/-- The same of the program printed for the ideal instance, at any values. -/
def FrameI (F : FTy → Type) [FloatOps F] [Cert.KernelIdeal.Facts] : Prop :=
  ∀ (m : (ℓ : Loc Cert.KernelIdeal.nD Cert.KernelIdeal.τ Cert.KernelIdeal.sig) → Buf (Elt F) ℓ) (ρ : Dev Cert.KernelIdeal.nD → PrngReg),
    θ_run (Cert.KernelIdeal.defs (F := F)) (onTc (τ := Cert.KernelIdeal.τ) (Cert.KernelIdeal.main (F := F))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

/-- The two programs are one text, so the two statements are one statement. -/
theorem frame_same (F : FTy → Type) [FloatOps F] [Cert.Kernel.Facts] [Cert.KernelIdeal.Facts] : FrameK F = FrameI F := by sl_kernel_rfl

/-- The frame of the kernel. -/
theorem frame (F : FTy → Type) [FloatOps F] : FrameK F := by
  rw [frame_same]
  exact fun m ρ => Cert.KernelIdeal.Hand.frame m ρ
end Cert.Kernel.Hand
end
-- ==== Proof.Spec.lean ====
module

public import Idealize.ShloMosaic.PureOps.Ideal
public import Idealize.ShloMosaic.Lib.Pointwise

@[expose] public section

/-! What both programs compute, over the extended reals, by sequence, head and channel; and the algebra of the softmax over
    positions of which some carry a score of minus infinity. -/

noncomputable section

namespace Cert.Spec

open Idealize.ShloMosaic

/-- The 32-bit word of minus infinity is the least extended real. -/
theorem negInf : Ideal.ofBits .f32 4286578688#32 = (⊥ : EReal) := by simp [Ideal.ofBits, Ideal.ieee]

/-- The greatest absolute value of a row of 64. -/
def absMax (r : Fin 64 → EReal) : EReal :=
  Finset.fold max (Ideal.ofBits .f32 4286578688#32) (fun d => FloatOps.absf (F := Ideal) (φ := .f32) (r d)) Finset.univ
/-- The scale of a row: the greatest absolute value over 127, or 1 for a row of zeros. -/
def qScale (r : Fin 64 → EReal) : EReal :=
  if 0 < absMax r then Ideal.div (absMax r) (Ideal.ofBits .f32 1123942400#32) else 1
/-- The 8-bit code of one entry: divided by the scale, rounded to even, clipped to ±127. -/
def qCode (r : Fin 64 → EReal) (d : Fin 64) : BitVec 8 :=
  FloatOps.fptosi (F := Ideal) (φ := .f32) 8 (min (Ideal.ofBits .f32 1123942400#32)
    (max (Ideal.ofBits .f32 3271426048#32) (Ideal.liftRound Ideal.roundHalfEven (Ideal.div (r d) (qScale r)))))
/-- A code times its scale. -/
def deq (c : BitVec 8) (s : EReal) : EReal := FloatOps.sitofp (F := Ideal) .bf16 c * s

/-- The dequantised keys or values of one sequence and head: the cached positions, then the new one. -/
def rows (c : Fin 8192 → Fin 64 → BitVec 8) (s : Fin 8192 → EReal) (r : Fin 64 → EReal) (t : Fin 8193) (x : Fin 64) : EReal :=
  if h : t.val < 8192 then deq (c ⟨t.val, h⟩ x) (s ⟨t.val, h⟩) else deq (qCode r x) (qScale r)

/-- The scaled score of one position. -/
def scoreAt (q : Fin 64 → EReal) (K : Fin 8193 → Fin 64 → EReal) (t : Fin 8193) : EReal :=
  (∑ x, q x * K t x) * Ideal.ofBits .f32 1040187392#32
/-- The greatest of a family. -/
def top {n : ℕ} (s : Fin n → EReal) : EReal := Finset.fold max (Ideal.ofBits .f32 4286578688#32) s Finset.univ
/-- The softmax numerator of one position. -/
def num {n : ℕ} (s : Fin n → EReal) (t : Fin n) : EReal := Ideal.exp (s t - top s)

/-- Attention of one query head over all positions, one channel of the result. -/
def attn (q : Fin 64 → EReal) (K V : Fin 8193 → Fin 64 → EReal) (d : Fin 64) : EReal :=
  Ideal.div (∑ t, num (scoreAt q K) t * V t d) (∑ t, num (scoreAt q K) t)

theorem lt5 (h : Fin 32) : h.val / 4 < 8 := by omega
theorem lt6 (h : Fin 32) (x : Fin 64) : 64 * h.val + x.val < 2048 := by omega

/-- The attention output at sequence `b`, query head `h`, channel `d`, from the arguments. -/
def yG (q : Fin 128 → Fin 2048 → EReal) (kn vn : Fin 128 → Fin 8 → Fin 64 → EReal)
    (kc : Fin 128 → Fin 8192 → Fin 8 → Fin 64 → BitVec 8) (ks : Fin 128 → Fin 8192 → Fin 8 → EReal)
    (vc : Fin 128 → Fin 8192 → Fin 8 → Fin 64 → BitVec 8) (vs : Fin 128 → Fin 8192 → Fin 8 → EReal)
    (b : Fin 128) (h : Fin 32) (d : Fin 64) : EReal :=
  attn (fun x => q b ⟨64 * h.val + x.val, lt6 h x⟩)
    (rows (fun t x => kc b t ⟨h.val / 4, lt5 h⟩ x) (fun t => ks b t ⟨h.val / 4, lt5 h⟩) (kn b ⟨h.val / 4, lt5 h⟩))
    (rows (fun t x => vc b t ⟨h.val / 4, lt5 h⟩ x) (fun t => vs b t ⟨h.val / 4, lt5 h⟩) (vn b ⟨h.val / 4, lt5 h⟩)) d

theorem top_eq {n : ℕ} (s : Fin n → EReal) : top s = Finset.univ.sup s := by
  unfold top; rw [negInf]; rfl

theorem num_bot {n : ℕ} (s : Fin n → EReal) (t : Fin n) (h : s t = ⊥) : num s t = 0 := by
  unfold num
  rw [h, EReal.bot_sub, Ideal.exp_bot]

theorem lt1 (t : Fin 8192) : t.val < 8320 := by omega
theorem lt2 (t : Fin 8192) : t.val < 8193 := by omega
theorem lt3 (x : Fin 128) : 8192 + x.val < 8320 := by omega
theorem lt4 : 8192 < 8193 := by omega

/-- A sum over `a + b` positions, the first `a` and the last `b` apart. -/
theorem sum_split_of {n a b : ℕ} (h : n = a + b) (f : Fin n → EReal) :
    ∑ t, f t = (∑ x : Fin b, f ⟨a + x.val, h ▸ Nat.add_lt_add_left x.isLt a⟩) + ∑ t : Fin a, f ⟨t.val, h ▸ Nat.lt_add_right b t.isLt⟩ := by
  subst h
  rw [Fin.sum_univ_add, add_comm]
  rfl

/-- A sum over `m` blocks of `n` of which only block `k` is not zero is the sum over that block. -/
theorem sum_block {N m n : ℕ} (hN : N = m * n) (f : Fin N → EReal) (k : Fin m) (h0 : ∀ x : Fin N, x.val / n ≠ k.val → f x = 0)
    (hk : ∀ d : Fin n, n * k.val + d.val < N) : ∑ x, f x = ∑ d : Fin n, f ⟨n * k.val + d.val, hk d⟩ := by
  subst hN
  rw [← finProdFinEquiv.sum_comp, Fintype.sum_prod_type, Finset.sum_eq_single k]
  · refine Finset.sum_congr rfl fun d _ => congrArg f (Fin.ext ?_)
    simp [finProdFinEquiv, add_comm]
  · intro j _ hj
    refine Finset.sum_eq_zero fun d _ => h0 _ fun e => hj (Fin.ext ?_)
    rw [← e]
    simp only [finProdFinEquiv, Equiv.coe_fn_mk]
    rw [Nat.add_mul_div_left _ _ (by have := d.isLt; omega), Nat.div_eq_of_lt d.isLt, zero_add]
  · exact fun h => absurd (Finset.mem_univ _) h

variable {s : Fin 8320 → EReal} {u : Fin 8193 → EReal} {b : Fin 128}
  (h1 : ∀ t : Fin 8192, s ⟨t.val, lt1 t⟩ = u ⟨t.val, lt2 t⟩) (h2 : s ⟨8192 + b.val, lt3 b⟩ = u ⟨8192, lt4⟩)
  (h3 : ∀ x : Fin 128, x ≠ b → s ⟨8192 + x.val, lt3 x⟩ = ⊥)
include h1 h2 h3

/-- Positions at minus infinity do not change the maximum. -/
theorem top_pad : top s = top u := by
  rw [top_eq, top_eq]
  apply le_antisymm
  · refine Finset.sup_le fun t _ => ?_
    by_cases ht : t.val < 8192
    · exact (h1 ⟨t.val, ht⟩).le.trans (Finset.le_sup (f := u) (Finset.mem_univ _))
    · by_cases hx : (⟨t.val - 8192, by omega⟩ : Fin 128) = b
      · have e : t = ⟨8192 + b.val, lt3 b⟩ := Fin.ext (by have := congrArg Fin.val hx; simp only at this ⊢; omega)
        rw [e, h2]
        exact Finset.le_sup (f := u) (Finset.mem_univ _)
      · have e : t = ⟨8192 + (⟨t.val - 8192, by omega⟩ : Fin 128).val, by simp only; omega⟩ := Fin.ext (by simp only; omega)
        rw [e, h3 _ hx]
        exact bot_le
  · refine Finset.sup_le fun t _ => ?_
    by_cases ht : t.val < 8192
    · exact (h1 ⟨t.val, ht⟩).ge.trans (Finset.le_sup (f := s) (Finset.mem_univ _))
    · have e : t = ⟨8192, lt4⟩ := Fin.ext (by simp only; omega)
      rw [e, ← h2]
      exact Finset.le_sup (f := s) (Finset.mem_univ _)

theorem num_pad (t : Fin 8192) : num s ⟨t.val, lt1 t⟩ = num u ⟨t.val, lt2 t⟩ := by
  unfold num; rw [top_pad h1 h2 h3, h1]

theorem num_pad_new : num s ⟨8192 + b.val, lt3 b⟩ = num u ⟨8192, lt4⟩ := by
  unfold num; rw [top_pad h1 h2 h3, h2]

omit h1 h2 in
theorem num_pad_off (x : Fin 128) (hx : x ≠ b) : num s ⟨8192 + x.val, lt3 x⟩ = 0 := num_bot _ _ (h3 x hx)

/-- The weighted sum over the padded positions is the sum over the true ones. -/
theorem sum_pad (W : Fin 8192 → EReal) (N : Fin 128 → EReal) (V : Fin 8193 → EReal) (hW : ∀ t : Fin 8192, W t = V ⟨t.val, lt2 t⟩)
    (hN : N b = V ⟨8192, lt4⟩) :
    (∑ x, N x * num s ⟨8192 + x.val, lt3 x⟩) + ∑ t : Fin 8192, W t * num s ⟨t.val, lt1 t⟩ = ∑ t, num u t * V t := by
  rw [sum_split_of (n := 8193) (a := 8192) (b := 1) (by norm_num) fun t => num u t * V t, Fin.sum_univ_one]
  have e1 : ∑ x, N x * num s ⟨8192 + x.val, lt3 x⟩ = num u ⟨8192, lt4⟩ * V ⟨8192, lt4⟩ := by
    rw [Finset.sum_eq_single b (fun x _ hx => by rw [num_pad_off h3 x hx, mul_zero]) (fun h => absurd (Finset.mem_univ _) h),
      num_pad_new h1 h2 h3, hN, mul_comm]
  have e2 : ∑ t : Fin 8192, W t * num s ⟨t.val, lt1 t⟩ = ∑ t : Fin 8192, num u ⟨t.val, lt2 t⟩ * V ⟨t.val, lt2 t⟩ :=
    Finset.sum_congr rfl fun t _ => by rw [num_pad h1 h2 h3, hW, mul_comm]
  rw [e1, e2]
  rfl

omit h1 h2 h3 in
/-- A sum over 8320 positions, the first 8192 and the last 128 apart. -/
theorem sum_split (f : Fin 8320 → EReal) : ∑ t, f t = (∑ x : Fin 128, f ⟨8192 + x.val, lt3 x⟩) + ∑ t : Fin 8192, f ⟨t.val, lt1 t⟩ :=
  sum_split_of (by norm_num) f

theorem total_pad : ∑ t, num s t = ∑ t, num u t := by
  have h := sum_pad h1 h2 h3 (fun _ => 1) (fun _ => 1) (fun _ => 1) (fun _ => rfl) rfl
  simp only [one_mul, mul_one] at h
  rw [sum_split, h]

end Cert.Spec

end
-- ==== Proof.KMathA.lean ====
module

public import proofs.«01_k».proof.Proof.KStage
public import proofs.«01_k».proof.Proof.Spec
public import Idealize.ShloMosaic.Lib.Pointwise

@[expose] public section

/-! The kernel's quantisation of the new keys and values, read at an index: scales, codes, and the dequantised rows. -/

set_option maxRecDepth 16384

noncomputable section

namespace Cert.KernelIdeal.Hand

open Cert.KernelIdeal Cert.KernelIdeal.Gen
open Idealize.ShloMosaic Idealize.ShloMosaic.Tactic

/-- The scale of a new key row. -/
theorem kScale_apply (x : Vec Ideal S8x64x128 .bf16) (kv : Fin 8) (b : Fin 128) :
    k0_pay3 (F := Ideal) x (ix2 kv b) = Spec.qScale fun d => x (ix3 kv d b) := by
  pointwise [k0_pay3, k0_pay2]
  rfl

/-- The code of a new key entry. -/
theorem kCode_apply (x : Vec Ideal S8x64x128 .bf16) (kv : Fin 8) (d : Fin 64) (b : Fin 128) :
    k0_pay4 (F := Ideal) x (ix3 kv d b) = Spec.qCode (fun d => x (ix3 kv d b)) d := by
  pointwise [k0_pay4, k0_pay3, k0_pay2]
  rfl

/-- The scale of a new value row. -/
theorem vScale_apply (x : Vec Ideal S8x64x128 .bf16) (kv : Fin 8) (b : Fin 128) :
    vScale (F := Ideal) x (ix2 kv b) = Spec.qScale fun d => x (ix3 kv d b) := by
  unfold vScale
  pointwise [k0_pay11, k0_pay10]
  rfl

/-- The code of a new value entry. -/
theorem vCode_apply (x : Vec Ideal S8x64x128 .bf16) (kv : Fin 8) (d : Fin 64) (b : Fin 128) :
    vCode (F := Ideal) x (ix3 kv d b) = Spec.qCode (fun d => x (ix3 kv d b)) d := by
  unfold vCode
  pointwise [k0_pay12, k0_pay11, k0_pay10]
  rfl

/-- The codes of the new keys laid out by row. -/
theorem kCode2_apply (x : Vec Ideal S8x64x128 .bf16) (k : Fin 512) (b : Fin 128) :
    k0_pay5 (F := Ideal) x (ix2 k b) = k0_pay4 x (ix3 ⟨k.val / 64, by omega⟩ ⟨k.val % 64, by omega⟩ b) := by
  pointwise [k0_pay5]

/-- The codes of the new values laid out by row. -/
theorem vCode2_apply (x : FVec Ideal S8x64x128 .f32) (s : FVec Ideal S8x128 .f32) (k : Fin 512) (b : Fin 128) :
    k0_pay13 (F := Ideal) x s (ix2 k b) = k0_pay12 x s (ix3 ⟨k.val / 64, by omega⟩ ⟨k.val % 64, by omega⟩ b) := by
  pointwise [k0_pay13]

/-- Head 0 of the new keys: code times scale. -/
theorem kRow0 (x : Vec Ideal S8x64x128 .bf16) (b : Fin 128) (d : Fin 64) : k0_pay6 (F := Ideal) x (ix2 d b) = Spec.deq (k0_pay5 (F := Ideal) x (ix2 ⟨d.val, by omega⟩ b)) (k0_pay3 (F := Ideal) x (ix2 0 b)) := by
  unfold Spec.deq
  pointwise [k0_pay6]

/-- Head 1 of the new keys: code times scale. -/
theorem kRow1 (x : Vec Ideal S8x64x128 .bf16) (b : Fin 128) (d : Fin 64) : k0_pay7 (F := Ideal) x (ix2 d b) = Spec.deq (k0_pay5 (F := Ideal) x (ix2 ⟨64 + d.val, by omega⟩ b)) (k0_pay3 (F := Ideal) x (ix2 1 b)) := by
  unfold Spec.deq
  pointwise [k0_pay7]

/-- Head 2 of the new keys: code times scale. -/
theorem kRow2 (x : Vec Ideal S8x64x128 .bf16) (b : Fin 128) (d : Fin 64) : k0_pay8 (F := Ideal) x (ix2 d b) = Spec.deq (k0_pay5 (F := Ideal) x (ix2 ⟨128 + d.val, by omega⟩ b)) (k0_pay3 (F := Ideal) x (ix2 2 b)) := by
  unfold Spec.deq
  pointwise [k0_pay8]

/-- The new keys dequantised, from the three heads made apart and the codes and scales of the rest. -/
theorem kRows_of (s : FVec Ideal S8x128 .f32) (a5 : IVec S512x128 8) (a6 a7 a8 : FVec Ideal S64x128 .bf16) (k : Fin 512) (b : Fin 128)
  (e6 : ∀ d : Fin 64, a6 (ix2 d b) = Spec.deq (a5 (ix2 ⟨d.val, by omega⟩ b)) (s (ix2 0 b)))
  (e7 : ∀ d : Fin 64, a7 (ix2 d b) = Spec.deq (a5 (ix2 ⟨64 + d.val, by omega⟩ b)) (s (ix2 1 b)))
  (e8 : ∀ d : Fin 64, a8 (ix2 d b) = Spec.deq (a5 (ix2 ⟨128 + d.val, by omega⟩ b)) (s (ix2 2 b))) :
    k0_pay9 (F := Ideal) s a5 a6 a7 a8 (ix2 k b) = Spec.deq (a5 (ix2 k b)) (s (ix2 ⟨k.val / 64, by omega⟩ b)) := by
  pointwise [k0_pay9]
  simp only [e6, e7, e8]
  split_ifs <;> refine congrArg₂ (fun a c => Spec.deq (a5 (ix2 a b)) (s (ix2 c b))) (Fin.ext ?_) (Fin.ext ?_) <;> simp <;> omega

/-- The new keys dequantised: code times the scale of the head. -/
theorem kRows_apply (x : Vec Ideal S8x64x128 .bf16) (k : Fin 512) (b : Fin 128) :
    kNew (F := Ideal) x (ix2 k b) = Spec.deq (k0_pay5 (F := Ideal) x (ix2 k b)) (k0_pay3 (F := Ideal) x (ix2 ⟨k.val / 64, by omega⟩ b)) :=
  kRows_of _ _ _ _ _ k b (kRow0 x b) (kRow1 x b) (kRow2 x b)

/-- The new keys dequantised are the dequantised code of the row of the argument. -/
theorem kNew_apply (x : Vec Ideal S8x64x128 .bf16) (kv : Fin 8) (d : Fin 64) (b : Fin 128) :
    kNew (F := Ideal) x (ix2 ⟨64 * kv.val + d.val, by omega⟩ b) = Spec.deq (Spec.qCode (fun d => x (ix3 kv d b)) d) (Spec.qScale fun d => x (ix3 kv d b)) := by
  have e1 : (⟨(64 * kv.val + d.val) / 64, by omega⟩ : Fin 8) = kv := Fin.ext (by simp only; omega)
  have e2 : (⟨(64 * kv.val + d.val) % 64, by omega⟩ : Fin 64) = d := Fin.ext (by simp only; omega)
  rw [kRows_apply, kCode2_apply]
  simp only [e1, e2]
  rw [kScale_apply, kCode_apply]

/-- The new values dequantised: code times the scale of the head. -/
theorem vRows_apply (x : FVec Ideal S8x64x128 .f32) (s : FVec Ideal S8x128 .f32) (k : Fin 512) (b : Fin 128) :
    k0_pay20 (F := Ideal) s (k0_pay13 x s) (k0_pay14 x s) (k0_pay15 x s) (k0_pay16 x s) (k0_pay17 x s) (k0_pay18 x s) (k0_pay19 s) (ix2 k b)
      = Spec.deq (k0_pay13 (F := Ideal) x s (ix2 k b)) (s (ix2 ⟨k.val / 64, by omega⟩ b)) := by
  have e4 (d : Fin 64) : k0_pay14 (F := Ideal) x s (ix2 d b) = Spec.deq (k0_pay13 (F := Ideal) x s (ix2 ⟨d.val, by omega⟩ b)) (s (ix2 0 b)) := by
    pointwise [k0_pay14]
    rfl
  have e5 (d : Fin 64) : k0_pay15 (F := Ideal) x s (ix2 d b) = Spec.deq (k0_pay13 (F := Ideal) x s (ix2 ⟨64 + d.val, by omega⟩ b)) (s (ix2 1 b)) := by
    pointwise [k0_pay15]
    rfl
  have e6 (d : Fin 64) : k0_pay16 (F := Ideal) x s (ix2 d b) = Spec.deq (k0_pay13 (F := Ideal) x s (ix2 ⟨128 + d.val, by omega⟩ b)) (s (ix2 2 b)) := by
    pointwise [k0_pay16]
    rfl
  have e7 (d : Fin 64) : k0_pay17 (F := Ideal) x s (ix2 d b) = Spec.deq (k0_pay13 (F := Ideal) x s (ix2 ⟨192 + d.val, by omega⟩ b)) (s (ix2 3 b)) := by
    pointwise [k0_pay17]
    rfl
  have e8 (d : Fin 64) : k0_pay18 (F := Ideal) x s (ix2 d b) = Spec.deq (k0_pay13 (F := Ideal) x s (ix2 ⟨256 + d.val, by omega⟩ b)) (s (ix2 4 b)) := by
    pointwise [k0_pay18]
    rfl
  have e9 (d : Fin 64) : k0_pay19 (F := Ideal) s (ix2 d b) = s (ix2 5 b) := by
    pointwise [k0_pay19]
  generalize k0_pay14 (F := Ideal) x s = a4 at *
  generalize k0_pay15 (F := Ideal) x s = a5 at *
  generalize k0_pay16 (F := Ideal) x s = a6 at *
  generalize k0_pay17 (F := Ideal) x s = a7 at *
  generalize k0_pay18 (F := Ideal) x s = a8 at *
  generalize k0_pay19 (F := Ideal) s = a9 at *
  generalize k0_pay13 (F := Ideal) x s = a3 at *
  pointwise [k0_pay20]
  simp only [e4, e5, e6, e7, e8, e9]
  split_ifs <;> refine congrArg₂ (fun a c => Spec.deq (a3 (ix2 a b)) (s (ix2 c b))) (Fin.ext ?_) (Fin.ext ?_) <;> simp <;> omega

/-- The new values dequantised are the dequantised code of the row of the argument. -/
theorem vNew_apply (x : Vec Ideal S8x64x128 .bf16) (kv : Fin 8) (d : Fin 64) (b : Fin 128) :
    vNew (F := Ideal) x (ix2 ⟨64 * kv.val + d.val, by omega⟩ b) = Spec.deq (Spec.qCode (fun d => x (ix3 kv d b)) d) (Spec.qScale fun d => x (ix3 kv d b)) := by
  have e1 : (⟨(64 * kv.val + d.val) / 64, by omega⟩ : Fin 8) = kv := Fin.ext (by simp only; omega)
  have e2 : (⟨(64 * kv.val + d.val) % 64, by omega⟩ : Fin 64) = d := Fin.ext (by simp only; omega)
  have c : k0_pay12 (F := Ideal) (k0_pay10 x) (k0_pay11 x) (ix3 kv d b) = _ := vCode_apply x kv d b
  have s : k0_pay11 (F := Ideal) x (ix2 kv b) = _ := vScale_apply x kv b
  unfold vNew
  rw [vRows_apply, vCode2_apply]
  simp only [e1, e2]
  rw [c, s]

end Cert.KernelIdeal.Hand

end
-- ==== Proof.KMathB.lean ====
module

public import proofs.«01_k».proof.Proof.KStage
public import proofs.«01_k».proof.Proof.Spec
public import Idealize.ShloMosaic.Lib.Pointwise
public import Idealize.ShloMosaic.Lib.WordCmp

@[expose] public section

/-! The stages of the kernel's body read at an index: dequantised chunks, scores, the score buffer, the softmax
    numerators, the attention sums and the final division. -/

set_option maxRecDepth 16384

noncomputable section

namespace Cert.KernelIdeal.Hand

open Cert.KernelIdeal Cert.KernelIdeal.Gen
open Idealize.ShloMosaic Idealize.ShloMosaic.Tactic

/-- A dequantised chunk at a row and position: code times the scale of the head. -/
theorem dq_apply (c : Vec Ideal S1x512x512 .i8) (s : Vec Ideal S1x8x512 .f32) (k : Fin 512) (t : Fin 512) :
    dq (F := Ideal) c s (ix2 k t) = Spec.deq (c (ix3 0 k t)) (s (ix3 0 ⟨k.val / 64, by omega⟩ t)) := by
  pointwise [dq, dqHead]
  split_ifs <;> refine congrArg₂ (fun a b => Spec.deq (c (ix3 0 a t)) (s (ix3 0 b t))) (Fin.ext ?_) (Fin.ext ?_) <;> simp <;> omega

/-- The kv head of a row, as the body's word arithmetic writes it. -/
def kvWord (x : BitVec 32) : BitVec 32 :=
  Scalar.select
    (IntOp.andi
      (IntOp.cmpi CmpIPredicate.ne
        (IntOp.subi (BitVec.setWidth 32 (IntOp.cmpi CmpIPredicate.sgt x 0#32)) (BitVec.setWidth 32 (IntOp.cmpi CmpIPredicate.slt x 0#32)))
        (Scalar.subi (Scalar.extui 1#1) (Scalar.extui (Scalar.cmpi CmpIPredicate.slt 64#32 0#32))))
      (IntOp.cmpi CmpIPredicate.ne (IntOp.remsi ArithUnit.vector x 64#32) 0#32))
    (IntOp.subi (IntOp.divsi ArithUnit.vector x 64#32) 1#32) (IntOp.divsi ArithUnit.vector x 64#32)

/-- The kv head of a query head, as the body's word arithmetic writes it. -/
def grpWord (x : BitVec 32) : BitVec 32 :=
  Scalar.select
    (IntOp.andi
      (IntOp.cmpi CmpIPredicate.ne
        (IntOp.subi (BitVec.setWidth 32 (IntOp.cmpi CmpIPredicate.sgt x 0#32)) (BitVec.setWidth 32 (IntOp.cmpi CmpIPredicate.slt x 0#32)))
        (Scalar.subi (Scalar.extui (Scalar.cmpi CmpIPredicate.sgt 4#32 0#32)) (Scalar.extui (Scalar.cmpi CmpIPredicate.slt 4#32 0#32))))
      (IntOp.cmpi CmpIPredicate.ne (IntOp.remsi ArithUnit.vector x 4#32) 0#32))
    (IntOp.subi (IntOp.divsi ArithUnit.vector x 4#32) 1#32) (IntOp.divsi ArithUnit.vector x 4#32)

/-- The word of a row is the number of its kv head. -/
theorem kvWord_eq : ∀ k : Fin 512, kvWord (BitVec.ofNat 32 k.val) = BitVec.ofNat 32 (k.val / 64) := by decide +kernel

/-- The word of a query head is the number of its kv head. -/
theorem grpWord_eq : ∀ h : Fin 32, grpWord (BitVec.ofNat 32 h.val) = BitVec.ofNat 32 (h.val / 4) := by decide +kernel

/-- A choice on the equality of two small words is a choice on the equality of the numbers. -/
theorem select_word {α : Type} (a b : ℕ) (ha : a < 2 ^ 32) (hb : b < 2 ^ 32) (p q : α) :
    Scalar.select (IntOp.cmpi .eq (BitVec.ofNat 32 a) (BitVec.ofNat 32 b)) p q = if a = b then p else q := by
  rw [WordCmp.cmpi_eq_ofNat ha hb]
  by_cases h : a = b <;> simp [Scalar.select, h]

/-- The block-diagonal queries: the query at its own kv head, zero elsewhere. -/
theorem qbd_apply (x : Vec Ideal S1x32x64 .bf16) (h : Fin 32) (k : Fin 512) :
    qbd (F := Ideal) x (ix2 h k) = if k.val / 64 = h.val / 4 then x (ix3 0 h ⟨k.val % 64, by omega⟩) else 0 := by
  unfold qbd
  pointwise [k0_pay21, k0_pay22, k0_pay23, k0_pay24, k0_pay25]
  refine (show Scalar.select (IntOp.cmpi .eq (grpWord (BitVec.ofNat 32 h.val)) (kvWord (BitVec.ofNat 32 k.val))) _ 0 = _ from ?_)
  rw [grpWord_eq, kvWord_eq, select_word _ _ (by omega) (by omega)]
  by_cases e : k.val / 64 = h.val / 4
  · rw [if_pos e, if_pos e.symm]
    split_ifs <;> refine congrArg (fun a => x (ix3 0 h a)) (Fin.ext ?_) <;> simp <;> omega
  · rw [if_neg e, if_neg fun c => e c.symm]

/-- A choice by the head words is a choice by the head numbers. -/
theorem sel_eq (n i : ℕ) (h : Fin 32) (hn : n / 64 = i) (hi : i < 8) (p : EReal) :
    Scalar.select (IntOp.cmpi .eq (kvWord (BitVec.ofNat 32 n)) (grpWord (BitVec.ofNat 32 h.val))) p 0 = if i = h.val / 4 then p else 0 := by
  have e := kvWord_eq ⟨n, by omega⟩
  simp only at e
  rw [e, grpWord_eq, select_word _ _ (by omega) (by omega), hn]

/-- The last steps pick each query head's own kv head and divide by the total. -/
theorem finish_apply (l : FVec Ideal S32x1 .f32) (o : FVec Ideal S512x32 .f32) (h : Fin 32) (k : Fin 64) :
    finish (F := Ideal) l o (ix2 h k) = Ideal.div (o (ix2 ⟨64 * (h.val / 4) + k.val, by omega⟩ h)) (l (ix2 h 0)) := by
  unfold finish
  pointwise [k0_pay275, k0_pay276, k0_pay277, k0_pay278, k0_pay279]
  refine congrArg (fun a => Ideal.div a (l (ix2 h 0))) ?_
  refine ((congrArg₂ (· + ·) (congrArg₂ (· + ·) (congrArg₂ (· + ·) (congrArg₂ (· + ·) (congrArg₂ (· + ·) (congrArg₂ (· + ·) (congrArg₂ (· + ·)
    (sel_eq _ 0 h ?_ (by omega) _) (sel_eq _ 1 h ?_ (by omega) _)) (sel_eq _ 2 h ?_ (by omega) _)) (sel_eq _ 3 h ?_ (by omega) _))
    (sel_eq _ 4 h ?_ (by omega) _)) (sel_eq _ 5 h ?_ (by omega) _)) (sel_eq _ 6 h ?_ (by omega) _)) (sel_eq _ 7 h ?_ (by omega) _)).trans ?_)
  any_goals omega
  have c : h.val / 4 = 0 ∨ h.val / 4 = 1 ∨ h.val / 4 = 2 ∨ h.val / 4 = 3 ∨ h.val / 4 = 4 ∨ h.val / 4 = 5 ∨ h.val / 4 = 6 ∨ h.val / 4 = 7 := by omega
  rcases c with e | e | e | e | e | e | e | e <;> simp [e]

/-- A product of the block-diagonal queries with a column, in the half the query head lies in. -/
theorem half_sum (x : Vec Ideal S1x32x64 .bf16) (q : FVec Ideal S32x512 .bf16)
    (hq : ∀ (h : Fin 32) (k : Fin 512), q (ix2 h k) = if k.val / 64 = h.val / 4 then x (ix3 0 h ⟨k.val % 64, by omega⟩) else 0)
    (g : Fin 512 → EReal) (h : Fin 32) :
    (if h.val < 16 then ∑ y : Fin 256, q (ix2 h ⟨y.val, by omega⟩) * g ⟨y.val, by omega⟩
      else ∑ y : Fin 256, q (ix2 ⟨16 + (h.val - 16), by omega⟩ ⟨256 + y.val, by omega⟩) * g ⟨256 + y.val, by omega⟩ : EReal)
      = ∑ d : Fin 64, x (ix3 0 h d) * g ⟨64 * (h.val / 4) + d.val, by omega⟩ := by
  by_cases hh : h.val < 16
  · rw [if_pos hh, Spec.sum_block (m := 4) (n := 64) (by norm_num) _ ⟨h.val / 4, by omega⟩ ?_ (by intro d; simp only; omega)]
    · refine Finset.sum_congr rfl fun d _ => ?_
      rw [hq, if_pos (by simp only; omega)]
      refine congrArg (fun a => x (ix3 0 h a) * _) (Fin.ext ?_)
      simp only; omega
    · intro y hy
      rw [hq, if_neg hy, zero_mul]
  · have eh : (⟨16 + (h.val - 16), by omega⟩ : Fin 32) = h := Fin.ext (by simp only; omega)
    rw [if_neg hh, Spec.sum_block (m := 4) (n := 64) (by norm_num) _ ⟨h.val / 4 - 4, by omega⟩ ?_ (by intro d; simp only; omega)]
    · refine Finset.sum_congr rfl fun d _ => ?_
      rw [eh, hq, if_pos (by simp only; omega)]
      refine congrArg₂ (fun a b => x (ix3 0 h a) * g b) (Fin.ext ?_) (Fin.ext ?_) <;> simp only <;> omega
    · intro y hy
      rw [eh, hq, if_neg (by simp only at hy ⊢; omega), zero_mul]

/-- The score of a cached position: only the query head's own kv head survives. -/
theorem score_apply (x : Vec Ideal S1x32x64 .bf16) (c : Vec Ideal S1x512x512 .i8) (s : Vec Ideal S1x8x512 .f32) (h : Fin 32) (t : Fin 512)
    (hq : ∀ (h : Fin 32) (k : Fin 512), qbd (F := Ideal) x (ix2 h k) = if k.val / 64 = h.val / 4 then x (ix3 0 h ⟨k.val % 64, by omega⟩) else 0) :
    score (F := Ideal) (qbd x) c s (ix2 h t) = (∑ d : Fin 64, x (ix3 0 h d) * dq c s (ix2 ⟨64 * (h.val / 4) + d.val, by omega⟩ t)) * Ideal.ofBits .f32 1040187392#32 := by
  generalize qbd (F := Ideal) x = q at *
  generalize e : dq (F := Ideal) c s = g
  pointwise [score]
  simp only [e]
  refine congrArg (· * Ideal.ofBits .f32 1040187392#32) ?_
  exact half_sum x q hq (fun k => g (ix2 k t)) h

/-- The score of the new position of each sequence; minus infinity away from the sequence at hand. -/
theorem new_apply (w : BitVec 32) (x : Vec Ideal S1x32x64 .bf16) (kn : FVec Ideal S512x128 .bf16) (h : Fin 32) (t : Fin 128)
    (hq : ∀ (h : Fin 32) (k : Fin 512), qbd (F := Ideal) x (ix2 h k) = if k.val / 64 = h.val / 4 then x (ix3 0 h ⟨k.val % 64, by omega⟩) else 0) :
    k0_pay152 (F := Ideal) w (qbd x) kn (ix2 h t) = Scalar.select (IntOp.cmpi .eq (BitVec.ofNat 32 t.val) w)
      ((∑ d : Fin 64, x (ix3 0 h d) * kn (ix2 ⟨64 * (h.val / 4) + d.val, by omega⟩ t)) * Ideal.ofBits .f32 1040187392#32) ⊥ := by
  generalize qbd (F := Ideal) x = q at *
  pointwise [k0_pay152]
  rw [Spec.negInf]
  refine congrArg (fun a => Scalar.select _ (a * Ideal.ofBits .f32 1040187392#32) _) ?_
  exact half_sum x q hq (fun k => kn (ix2 k t)) h

/-- A chunk of codes read at a position is the block read at the position in the whole. -/
theorem cAt_apply (x : Vec Ideal S1x512x8192 .i8) (o : ℕ) (hh) (k : Fin 512) (t : Fin 512) (ho : o + 512 ≤ 8192) :
    cAt (F := Ideal) x o hh (ix3 0 k t) = x (ix3 0 k ⟨o + t.val, by omega⟩) := by
  refine congrArg x (funext fun a => Fin.ext ?_)
  match a with
  | ⟨0, _⟩ => rfl
  | ⟨1, _⟩ => show 0 + 1 * k.val = k.val; omega
  | ⟨2, _⟩ => show o + 1 * t.val = o + t.val; omega

/-- A chunk of scales read at a position. -/
theorem sAt_apply (x : Vec Ideal S1x8x8192 .f32) (o : ℕ) (hh) (k : Fin 8) (t : Fin 512) (ho : o + 512 ≤ 8192) :
    sAt (F := Ideal) x o hh (ix3 0 k t) = x (ix3 0 k ⟨o + t.val, by omega⟩) := by
  refine congrArg x (funext fun a => Fin.ext ?_)
  match a with
  | ⟨0, _⟩ => rfl
  | ⟨1, _⟩ => show 0 + 1 * k.val = k.val; omega
  | ⟨2, _⟩ => show o + 1 * t.val = o + t.val; omega

/-- A store of columns `o` to `o + n` covers its columns; the stores before it cover the columns below. -/
theorem cover_step (h : Fin 32) (t : Fin 8320) (o : ℕ) (sz : Fin S32x8320.rank → ℕ) (inb) (pl) (L : List (View.Piece (Elt Ideal) S32x8320 .f32))
    (h0 : sz 0 = 32) (ht : t.val < o + sz 1) (H : t.val < o → ∃ p ∈ L, ix2 h t ∈ p.1.set) :
    ∃ p ∈ (⟨Rect.unit ![0, o] sz inb, pl⟩ : View.Piece (Elt Ideal) S32x8320 .f32) :: L, ix2 h t ∈ p.1.set := by
  by_cases c : t.val < o
  · obtain ⟨p, hp, hy⟩ := H c
    exact ⟨p, List.mem_cons_of_mem _ hp, hy⟩
  · refine ⟨_, List.mem_cons_self, (Rect.mem_set_unit (s := S32x8320) (off := ![0, o]) (size := sz) (inb := inb) (i := ix2 h t)).2 fun a => ?_⟩
    match a with
    | ⟨0, _⟩ => exact ⟨Nat.zero_le _, by show h.val < 0 + sz 0; omega⟩
    | ⟨1, _⟩ => exact ⟨by show o ≤ t.val; omega, by show t.val < o + sz 1; omega⟩

/-- The score buffer is any function that agrees with every store. -/
theorem sBuf_eq (w : BitVec 32) (q : FVec Ideal S32x512 .bf16) (x3 : Vec Ideal S1x512x8192 .i8) (x4 : Vec Ideal S1x8x8192 .f32) (kn : FVec Ideal S512x128 .bf16)
    (G : Fin 32 → Fin 8320 → EReal)
    (h1 : ∀ (o : ℕ) (ho : o + 512 ≤ 8192) (hc hs) (h : Fin 32) (t : Fin 512),
      score (F := Ideal) q (cAt x3 o hc) (sAt x4 o hs) (ix2 h t) = G h ⟨o + t.val, by omega⟩)
    (h2 : ∀ (h : Fin 32) (t : Fin 128), k0_pay152 (F := Ideal) w q kn (ix2 h t) = G h ⟨8192 + t.val, by omega⟩) (h : Fin 32) (t : Fin 8320) :
    sBuf (F := Ideal) w q x3 x4 kn (ix2 h t) = G h t := by
  have pc (o : ℕ) (ho : o + 512 ≤ 8192) (inb hc hs) (x : S32x512.Idx) : score (F := Ideal) q (cAt x3 o hc) (sAt x4 o hs) x
      = (fun y : S32x8320.Idx => G (y 0) (y 1)) ((Rect.unit (s := S32x8320) ![0, o] S32x512.size inb).emb x) := by
    obtain ⟨a, b, rfl⟩ : ∃ a b, x = ix2 a b := ⟨x 0, x 1, (ix2_eta x).symm⟩
    rw [h1 o ho]
    refine congrArg₂ G (Fin.ext ?_) (Fin.ext ?_)
    · show a.val = 0 + 1 * a.val; omega
    · show o + b.val = o + 1 * b.val; omega
  have pn (inb) (x : S32x128.Idx) : k0_pay152 (F := Ideal) w q kn x
      = (fun y : S32x8320.Idx => G (y 0) (y 1)) ((Rect.unit (s := S32x8320) ![0, 8192] S32x128.size inb).emb x) := by
    obtain ⟨a, b, rfl⟩ : ∃ a b, x = ix2 a b := ⟨x 0, x 1, (ix2_eta x).symm⟩
    rw [h2]
    refine congrArg₂ G (Fin.ext ?_) (Fin.ext ?_)
    · show a.val = 0 + 1 * a.val; omega
    · show 8192 + b.val = 8192 + 1 * b.val; omega
  unfold sBuf
  refine View.canon_apply_of_pieces (Val := Elt Ideal) (S := S32x8320) (e := .f32) (fun y : S32x8320.Idx => G (y 0) (y 1)) (sPieces w q x3 x4 kn) ?_ (ix2 h t) ?_
  · unfold sPieces
    refine List.forall_mem_cons.2 ⟨pn inb_S32x8320_S32x128_0_8192, ?_⟩
    iterate 16 refine List.forall_mem_cons.2 ⟨pc _ (by omega) (by decide) (by decide) (by decide), ?_⟩
    exact fun p hp => absurd hp List.not_mem_nil
  · unfold sPieces
    refine cover_step h t 8192 _ _ _ _ rfl t.isLt fun e => ?_
    iterate 16 (refine cover_step h t _ _ _ _ _ rfl e fun e => ?_)
    omega

/-- The numerators are those of the softmax over the score buffer's row. -/
theorem num_apply (s : Vec Ideal S32x8320 .f32) (h : Fin 32) (t : Fin 8320) :
    k0_pay155 (F := Ideal) s (ix2 h t) = Spec.num (fun t => s (ix2 h t)) t := by
  pointwise [k0_pay155, k0_pay153]
  rfl

/-- The sum of the numerators. -/
theorem total_apply (s : Vec Ideal S32x8320 .f32) (h : Fin 32) :
    k0_pay154 (F := Ideal) s (ix2 h 0) = ∑ t, Spec.num (fun t => s (ix2 h t)) t := by
  pointwise [k0_pay154, k0_pay153]
  rfl

/-- The new positions' share of the attention sum. -/
theorem first_apply (s : Vec Ideal S32x8320 .f32) (v : FVec Ideal S512x128 .bf16) (k : Fin 512) (h : Fin 32) :
    k0_pay156 (F := Ideal) s v (ix2 k h) = ∑ x : Fin 128, v (ix2 k x) * Spec.num (fun t => s (ix2 h t)) ⟨8192 + x.val, by omega⟩ := by
  pointwise [k0_pay156]
  simp only [num_apply]

/-- One chunk's share of the attention sum. -/
theorem attend_apply (o : FVec Ideal S512x32 .f32) (p : FVec Ideal S32x8320 .bf16) (off : ℕ) (ho : off + 512 ≤ 8192) (hp)
    (c : Vec Ideal S1x512x512 .i8) (s : Vec Ideal S1x8x512 .f32) (k : Fin 512) (h : Fin 32) :
    attend (F := Ideal) o p off hp c s (ix2 k h) = o (ix2 k h) + ∑ x : Fin 512, dq c s (ix2 k x) * p (ix2 h ⟨off + x.val, by omega⟩) := by
  generalize e : dq (F := Ideal) c s = g
  pointwise [attend]
  simp only [e]

/-- The attention sums: the new positions and the sixteen chunks are one sum over all positions. -/
theorem oSum_apply (sb : Vec Ideal S32x8320 .f32) (x5 : Vec Ideal S1x512x8192 .i8) (x6 : Vec Ideal S1x8x8192 .f32) (vn : FVec Ideal S512x128 .bf16)
    (k : Fin 512) (h : Fin 32) :
    oSum (F := Ideal) sb x5 x6 vn (ix2 k h) = (∑ x : Fin 128, vn (ix2 k x) * Spec.num (fun t => sb (ix2 h t)) ⟨8192 + x.val, by omega⟩)
      + ∑ t : Fin 8192, Spec.deq (x5 (ix3 0 k t)) (x6 (ix3 0 ⟨k.val / 64, by omega⟩ t)) * Spec.num (fun t => sb (ix2 h t)) ⟨t.val, by omega⟩ := by
  let g : ℕ → EReal := fun n => if hn : n < 8192 then
    Spec.deq (x5 (ix3 0 k ⟨n, hn⟩)) (x6 (ix3 0 ⟨k.val / 64, by omega⟩ ⟨n, hn⟩)) * Spec.num (fun t => sb (ix2 h t)) ⟨n, by omega⟩ else 0
  have st (o : FVec Ideal S512x32 .f32) (a : EReal) (n : ℕ) (ho : n + 512 ≤ 8192) (hp hc hs) (H : o (ix2 k h) = a + ∑ i ∈ Finset.range n, g i) :
      attend (F := Ideal) o (k0_pay155 sb) n hp (cAt x5 n hc) (sAt x6 n hs) (ix2 k h) = a + ∑ i ∈ Finset.range (n + 512), g i := by
    rw [attend_apply _ _ n ho, H, add_assoc, Finset.sum_range_add]
    refine congrArg (fun z => a + (_ + z)) ?_
    rw [Finset.sum_range]
    refine Finset.sum_congr rfl fun x _ => ?_
    have hx : n + x.val < 8192 := by have := x.isLt; omega
    rw [dq_apply, cAt_apply _ _ _ _ _ ho, sAt_apply _ _ _ _ _ ho, num_apply]
    simp only [g, dif_pos hx]
  have e : ∑ t : Fin 8192, Spec.deq (x5 (ix3 0 k t)) (x6 (ix3 0 ⟨k.val / 64, by omega⟩ t)) * Spec.num (fun t => sb (ix2 h t)) ⟨t.val, by omega⟩
      = ∑ i ∈ Finset.range 8192, g i := by
    rw [Finset.sum_range]
    refine Finset.sum_congr rfl fun t _ => ?_
    simp only [g, dif_pos t.isLt]
  rw [e]
  unfold oSum
  iterate 16 refine st _ _ _ (by omega) _ _ _ ?_
  rw [first_apply, Finset.sum_range_zero, add_zero]

end Cert.KernelIdeal.Hand

end
-- ==== Proof.KMathC.lean ====
module

public import proofs.«01_k».proof.Proof.KMathB

@[expose] public section

/-! The attention output of one grid point is the softmax attention over the cached positions and the new one. -/

set_option maxRecDepth 16384

noncomputable section

namespace Cert.KernelIdeal.Hand

open Cert.KernelIdeal Cert.KernelIdeal.Gen
open Idealize.ShloMosaic Idealize.ShloMosaic.Tactic

/-- The score buffer: scaled scores of the cached positions, of the new position at the sequence at hand, minus infinity elsewhere. -/
theorem sBuf_cached (b : Fin 128) (x0 : Vec Ideal S1x32x64 .bf16) (x3 : Vec Ideal S1x512x8192 .i8) (x4 : Vec Ideal S1x8x8192 .f32) (kn : FVec Ideal S512x128 .bf16)
    (h : Fin 32) (t : Fin 8320) :
    sBuf (F := Ideal) (BitVec.ofNat 32 b.val) (qbd x0) x3 x4 kn (ix2 h t)
      = if ht : t.val < 8192 then
          (∑ d : Fin 64, x0 (ix3 0 h d) * Spec.deq (x3 (ix3 0 ⟨64 * (h.val / 4) + d.val, by omega⟩ ⟨t.val, ht⟩)) (x4 (ix3 0 ⟨h.val / 4, by omega⟩ ⟨t.val, ht⟩))) * Ideal.ofBits .f32 1040187392#32
        else if t.val - 8192 = b.val then
          (∑ d : Fin 64, x0 (ix3 0 h d) * kn (ix2 ⟨64 * (h.val / 4) + d.val, by omega⟩ ⟨t.val - 8192, by omega⟩)) * Ideal.ofBits .f32 1040187392#32
        else ⊥ := by
  refine sBuf_eq _ _ _ _ _ (fun h t => if ht : t.val < 8192 then
          (∑ d : Fin 64, x0 (ix3 0 h d) * Spec.deq (x3 (ix3 0 ⟨64 * (h.val / 4) + d.val, by omega⟩ ⟨t.val, ht⟩)) (x4 (ix3 0 ⟨h.val / 4, by omega⟩ ⟨t.val, ht⟩))) * Ideal.ofBits .f32 1040187392#32
        else if t.val - 8192 = b.val then
          (∑ d : Fin 64, x0 (ix3 0 h d) * kn (ix2 ⟨64 * (h.val / 4) + d.val, by omega⟩ ⟨t.val - 8192, by omega⟩)) * Ideal.ofBits .f32 1040187392#32
        else ⊥) ?_ ?_ h t
  · intro o ho hc hs h t
    have hx : o + t.val < 8192 := by have := t.isLt; omega
    rw [score_apply _ _ _ _ _ (qbd_apply x0)]
    simp only [dif_pos hx]
    refine congrArg (· * _) (Finset.sum_congr rfl fun d _ => congrArg (_ * ·) ?_)
    rw [dq_apply, cAt_apply _ _ _ _ _ ho, sAt_apply _ _ _ _ _ ho]
    refine congrArg (fun a => Spec.deq _ (x4 (ix3 0 a _))) (Fin.ext ?_)
    simp only; omega
  · intro h t
    have hx : ¬8192 + t.val < 8192 := by omega
    have et : (⟨8192 + t.val - 8192, by omega⟩ : Fin 128) = t := Fin.ext (by simp only; omega)
    rw [new_apply _ _ _ _ _ (qbd_apply x0), select_word _ _ (by omega) (by omega)]
    simp only [dif_neg hx, et]
    refine if_congr ?_ rfl rfl
    omega

/-- One grid point's attention output at a head and channel. -/
theorem yOut_apply (b : Fin 128) (x0 : Vec Ideal S1x32x64 .bf16) (x3 : Vec Ideal S1x512x8192 .i8) (x4 : Vec Ideal S1x8x8192 .f32)
    (x5 : Vec Ideal S1x512x8192 .i8) (x6 : Vec Ideal S1x8x8192 .f32) (kn vn : FVec Ideal S512x128 .bf16) (h : Fin 32) (d : Fin 64)
    (K V : Fin 8193 → Fin 64 → EReal)
    (hK : ∀ (t : Fin 8192) (x : Fin 64), K ⟨t.val, by omega⟩ x = Spec.deq (x3 (ix3 0 ⟨64 * (h.val / 4) + x.val, by omega⟩ t)) (x4 (ix3 0 ⟨h.val / 4, by omega⟩ t)))
    (hKn : ∀ x : Fin 64, K ⟨8192, by omega⟩ x = kn (ix2 ⟨64 * (h.val / 4) + x.val, by omega⟩ b))
    (hV : ∀ (t : Fin 8192), V ⟨t.val, by omega⟩ d = Spec.deq (x5 (ix3 0 ⟨64 * (h.val / 4) + d.val, by omega⟩ t)) (x6 (ix3 0 ⟨h.val / 4, by omega⟩ t)))
    (hVn : V ⟨8192, by omega⟩ d = vn (ix2 ⟨64 * (h.val / 4) + d.val, by omega⟩ b)) :
    yOut (F := Ideal) (BitVec.ofNat 32 b.val) x0 x3 x4 x5 x6 kn vn (ix3 0 h d) = Spec.attn (fun x => x0 (ix3 0 h x)) K V d := by
  have h1 : ∀ t : Fin 8192, sBuf (F := Ideal) (BitVec.ofNat 32 b.val) (qbd x0) x3 x4 kn (ix2 h ⟨t.val, by omega⟩)
      = Spec.scoreAt (fun x => x0 (ix3 0 h x)) K ⟨t.val, by omega⟩ := by
    intro t
    rw [sBuf_cached, dif_pos t.isLt]
    unfold Spec.scoreAt
    simp only [hK]
  have h2 : sBuf (F := Ideal) (BitVec.ofNat 32 b.val) (qbd x0) x3 x4 kn (ix2 h ⟨8192 + b.val, by omega⟩)
      = Spec.scoreAt (fun x => x0 (ix3 0 h x)) K ⟨8192, by omega⟩ := by
    have eb : (⟨8192 + b.val - 8192, by omega⟩ : Fin 128) = b := Fin.ext (by simp only; omega)
    rw [sBuf_cached, dif_neg (by simp only; omega), if_pos (by simp only; omega)]
    unfold Spec.scoreAt
    simp only [hKn, eb]
  have h3 : ∀ x : Fin 128, x ≠ b → sBuf (F := Ideal) (BitVec.ofNat 32 b.val) (qbd x0) x3 x4 kn (ix2 h ⟨8192 + x.val, by omega⟩) = ⊥ := by
    intro x hx
    rw [sBuf_cached, dif_neg (by simp only; omega), if_neg fun e => hx (Fin.ext (by simp only at e; omega))]
  unfold yOut
  generalize sBuf (F := Ideal) (BitVec.ofNat 32 b.val) (qbd x0) x3 x4 kn = sb at *
  have ef : finish (F := Ideal) (k0_pay154 sb) (oSum sb x5 x6 vn) (ix2 h d) = Spec.attn (fun x => x0 (ix3 0 h x)) K V d := by
    rw [finish_apply, total_apply, oSum_apply]
    unfold Spec.attn
    refine congrArg₂ Ideal.div ?_ (Spec.total_pad (s := fun t => sb (ix2 h t)) h1 h2 h3)
    refine Spec.sum_pad (s := fun t => sb (ix2 h t)) h1 h2 h3 _ _ (fun t => V t d) ?_ hVn.symm
    intro t
    rw [hV]
    refine congrArg (fun a => Spec.deq _ (x6 (ix3 0 a _))) (Fin.ext ?_)
    simp only; omega
  generalize finish (F := Ideal) (k0_pay154 sb) (oSum sb x5 x6 vn) = y at *
  rw [← ef]
  pointwise [k0_pay1]

end Cert.KernelIdeal.Hand

end
-- ==== Proof.KArr.lean ====
module

public import proofs.«01_k».proof.Proof.KDat
public import proofs.«01_k».proof.Proof.KMathA
public import proofs.«01_k».proof.Proof.KMathC
public import Idealize.ShloMosaic.Lib.Pipeline.ValueKit
public import Idealize.ShloMosaic.Lib.StableHlo.ReadAt
public import Idealize.ShloMosaic.Lib.Claim

@[expose] public section

/-! The kernel's results read at an index, as functions of its arguments: the host lines before the region, the blocks of
    each grid point, the arrays after the last point, and the host lines after the region. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.Pipeline (Dat Cfg Window)

variable (m : (ℓ : Loc nD τ sig) → Buf (Elt Ideal) ℓ)

/-! ## The arguments by sequence, position, head and channel -/

/-- The queries. -/
def qA (c : Dev nD) (b : Fin 128) (x : Fin 2048) : EReal := m ((c : Thread nD τ).loc main_arg0) (ix3 b 0 x)
/-- The new keys. -/
def knA (c : Dev nD) (b : Fin 128) (h : Fin 8) (x : Fin 64) : EReal := m ((c : Thread nD τ).loc main_arg1) (ix4 b 0 h x)
/-- The new values. -/
def vnA (c : Dev nD) (b : Fin 128) (h : Fin 8) (x : Fin 64) : EReal := m ((c : Thread nD τ).loc main_arg2) (ix4 b 0 h x)
/-- The codes of the cached keys. -/
def kcA (c : Dev nD) (b : Fin 128) (t : Fin 8192) (h : Fin 8) (x : Fin 64) : BitVec 8 := m ((c : Thread nD τ).loc main_arg3) (ix4 b t h x)
/-- The scales of the cached keys. -/
def ksA (c : Dev nD) (b : Fin 128) (t : Fin 8192) (h : Fin 8) : EReal := m ((c : Thread nD τ).loc main_arg4) (ix3 b t h)
/-- The codes of the cached values. -/
def vcA (c : Dev nD) (b : Fin 128) (t : Fin 8192) (h : Fin 8) (x : Fin 64) : BitVec 8 := m ((c : Thread nD τ).loc main_arg5) (ix4 b t h x)
/-- The scales of the cached values. -/
def vsA (c : Dev nD) (b : Fin 128) (t : Fin 8192) (h : Fin 8) : EReal := m ((c : Thread nD τ).loc main_arg6) (ix3 b t h)

/-! ## The operands of the region -/

theorem in0 (c : Dev nD) (b : Fin 128) (h : Fin 32) (x : Fin 64) : V m c main_v0 (ix3 b h x) = qA m c b ⟨64 * h.val + x.val, Spec.lt6 h x⟩ := by
  unfold V V0 qA
  after_reads_at
  refine congrArg (fun a => m ((c : Thread nD τ).loc main_arg0) (ix3 b 0 a)) (Fin.ext ?_)
  simp only; omega
theorem in1 (c : Dev nD) (h : Fin 8) (x : Fin 64) (b : Fin 128) : V m c main_v2 (ix3 h x b) = knA m c b h x := by
  unfold V V0 knA
  after_reads_at
theorem in2 (c : Dev nD) (h : Fin 8) (x : Fin 64) (b : Fin 128) : V m c main_v4 (ix3 h x b) = vnA m c b h x := by
  unfold V V0 vnA
  after_reads_at
theorem in3 (c : Dev nD) (b : Fin 128) (k : Fin 512) (t : Fin 8192) :
    V m c main_v6 (ix3 b k t) = kcA m c b t ⟨k.val / 64, by omega⟩ ⟨k.val % 64, by omega⟩ := by
  unfold V V0 kcA
  after_reads_at
theorem in4 (c : Dev nD) (b : Fin 128) (h : Fin 8) (t : Fin 8192) : V m c main_v7 (ix3 b h t) = ksA m c b t h := by
  unfold V V0 ksA
  after_reads_at
theorem in5 (c : Dev nD) (b : Fin 128) (k : Fin 512) (t : Fin 8192) :
    V m c main_v9 (ix3 b k t) = vcA m c b t ⟨k.val / 64, by omega⟩ ⟨k.val % 64, by omega⟩ := by
  unfold V V0 vcA
  after_reads_at
theorem in6 (c : Dev nD) (b : Fin 128) (h : Fin 8) (t : Fin 8192) : V m c main_v10 (ix3 b h t) = vsA m c b t h := by
  unfold V V0 vsA
  after_reads_at

/-! ## The blocks of a grid point -/

/-- A grid point as a sequence number. -/
def seqOf (t : Fin cfg0.N) : Fin 128 := t.cast N_0

theorem coord_eq : ∀ t : Fin cfg0.N, (grid0.coords t 0).val = t.val := by decide +kernel
theorem index0 : ∀ t : Fin cfg0.N, win0_0.index t 0 = t.val ∧ win0_0.index t 1 = 0 ∧ win0_0.index t 2 = 0 := by decide +kernel
theorem index1 : ∀ t : Fin cfg0.N, win0_1.index t 0 = 0 ∧ win0_1.index t 1 = 0 ∧ win0_1.index t 2 = 0 := by decide +kernel
theorem index2 : ∀ t : Fin cfg0.N, win0_2.index t 0 = 0 ∧ win0_2.index t 1 = 0 ∧ win0_2.index t 2 = 0 := by decide +kernel
theorem index3 : ∀ t : Fin cfg0.N, win0_3.index t 0 = t.val ∧ win0_3.index t 1 = 0 ∧ win0_3.index t 2 = 0 := by decide +kernel
theorem index4 : ∀ t : Fin cfg0.N, win0_4.index t 0 = t.val ∧ win0_4.index t 1 = 0 ∧ win0_4.index t 2 = 0 := by decide +kernel
theorem index5 : ∀ t : Fin cfg0.N, win0_5.index t 0 = t.val ∧ win0_5.index t 1 = 0 ∧ win0_5.index t 2 = 0 := by decide +kernel
theorem index6 : ∀ t : Fin cfg0.N, win0_6.index t 0 = t.val ∧ win0_6.index t 1 = 0 ∧ win0_6.index t 2 = 0 := by decide +kernel
theorem index7 : ∀ t : Fin cfg0.N, win0_7.index t 0 = t.val ∧ win0_7.index t 1 = 0 ∧ win0_7.index t 2 = 0 := by decide +kernel
theorem index8 : ∀ t : Fin cfg0.N, win0_8.index t 0 = 0 ∧ win0_8.index t 1 = 0 ∧ win0_8.index t 2 = 0 := by decide +kernel
theorem index9 : ∀ t : Fin cfg0.N, win0_9.index t 0 = 0 ∧ win0_9.index t 1 = 0 := by decide +kernel
theorem index10 : ∀ t : Fin cfg0.N, win0_10.index t 0 = 0 ∧ win0_10.index t 1 = 0 ∧ win0_10.index t 2 = 0 := by decide +kernel
theorem index11 : ∀ t : Fin cfg0.N, win0_11.index t 0 = 0 ∧ win0_11.index t 1 = 0 := by decide +kernel

theorem blk0 (c : Dev nD) (t : Fin cfg0.N) (h : Fin 32) (x : Fin 64) : iblk m c 0 t (ix3 0 h x) = qA m c (seqOf t) ⟨64 * h.val + x.val, Spec.lt6 h x⟩ := by
  rw [← in0]
  blk_simp [iblk]
  have e := index0 t
  refine congrArg _ (funext fun a => Fin.ext ?_)
  match a with
  | ⟨0, _⟩ => blk_simp [e.1]; rfl
  | ⟨1, _⟩ => blk_simp [e.2.1]
  | ⟨2, _⟩ => blk_simp [e.2.2]
theorem blk1 (c : Dev nD) (h : Fin 8) (x : Fin 64) (b : Fin 128) : iblk m c 1 t0 (ix3 h x b) = knA m c b h x := by
  rw [← in1]
  blk_simp [iblk]
  have e := index1 t0
  refine congrArg _ (funext fun a => Fin.ext ?_)
  match a with
  | ⟨0, _⟩ => blk_simp [e.1]
  | ⟨1, _⟩ => blk_simp [e.2.1]
  | ⟨2, _⟩ => blk_simp [e.2.2]
theorem blk2 (c : Dev nD) (h : Fin 8) (x : Fin 64) (b : Fin 128) : iblk m c 2 t0 (ix3 h x b) = vnA m c b h x := by
  rw [← in2]
  blk_simp [iblk]
  have e := index2 t0
  refine congrArg _ (funext fun a => Fin.ext ?_)
  match a with
  | ⟨0, _⟩ => blk_simp [e.1]
  | ⟨1, _⟩ => blk_simp [e.2.1]
  | ⟨2, _⟩ => blk_simp [e.2.2]
theorem blk3 (c : Dev nD) (t : Fin cfg0.N) (k : Fin 512) (x : Fin 8192) : iblk m c 3 t (ix3 0 k x) = kcA m c (seqOf t) x ⟨k.val / 64, by omega⟩ ⟨k.val % 64, by omega⟩ := by
  rw [← in3]
  blk_simp [iblk]
  have e := index3 t
  refine congrArg _ (funext fun a => Fin.ext ?_)
  match a with
  | ⟨0, _⟩ => blk_simp [e.1]; rfl
  | ⟨1, _⟩ => blk_simp [e.2.1]
  | ⟨2, _⟩ => blk_simp [e.2.2]
theorem blk4 (c : Dev nD) (t : Fin cfg0.N) (h : Fin 8) (x : Fin 8192) : iblk m c 4 t (ix3 0 h x) = ksA m c (seqOf t) x h := by
  rw [← in4]
  blk_simp [iblk]
  have e := index4 t
  refine congrArg _ (funext fun a => Fin.ext ?_)
  match a with
  | ⟨0, _⟩ => blk_simp [e.1]; rfl
  | ⟨1, _⟩ => blk_simp [e.2.1]
  | ⟨2, _⟩ => blk_simp [e.2.2]
theorem blk5 (c : Dev nD) (t : Fin cfg0.N) (k : Fin 512) (x : Fin 8192) : iblk m c 5 t (ix3 0 k x) = vcA m c (seqOf t) x ⟨k.val / 64, by omega⟩ ⟨k.val % 64, by omega⟩ := by
  rw [← in5]
  blk_simp [iblk]
  have e := index5 t
  refine congrArg _ (funext fun a => Fin.ext ?_)
  match a with
  | ⟨0, _⟩ => blk_simp [e.1]; rfl
  | ⟨1, _⟩ => blk_simp [e.2.1]
  | ⟨2, _⟩ => blk_simp [e.2.2]
theorem blk6 (c : Dev nD) (t : Fin cfg0.N) (h : Fin 8) (x : Fin 8192) : iblk m c 6 t (ix3 0 h x) = vsA m c (seqOf t) x h := by
  rw [← in6]
  blk_simp [iblk]
  have e := index6 t
  refine congrArg _ (funext fun a => Fin.ext ?_)
  match a with
  | ⟨0, _⟩ => blk_simp [e.1]; rfl
  | ⟨1, _⟩ => blk_simp [e.2.1]
  | ⟨2, _⟩ => blk_simp [e.2.2]

/-! ## What a grid point leaves -/

/-- The codes of the new keys. -/
theorem kcOf_apply (c : Dev nD) (h : Fin 8) (d : Fin 64) (b : Fin 128) : kcOf m c (ix3 h d b) = Spec.qCode (knA m c b h) d := by
  unfold kcOf
  rw [kCode_apply]
  simp only [blk1]
/-- The scales of the new keys. -/
theorem ksOf_apply (c : Dev nD) (h : Fin 8) (b : Fin 128) : ksOf m c (ix2 h b) = Spec.qScale (knA m c b h) := by
  unfold ksOf
  rw [kScale_apply]
  simp only [blk1]
/-- The codes of the new values. -/
theorem vcOf_apply (c : Dev nD) (h : Fin 8) (d : Fin 64) (b : Fin 128) : vcOf m c (ix3 h d b) = Spec.qCode (vnA m c b h) d := by
  unfold vcOf
  rw [vCode_apply]
  simp only [blk2]
/-- The scales of the new values. -/
theorem vsOf_apply (c : Dev nD) (h : Fin 8) (b : Fin 128) : vsOf m c (ix2 h b) = Spec.qScale (vnA m c b h) := by
  unfold vsOf
  rw [vScale_apply]
  simp only [blk2]
/-- The dequantised new keys. -/
theorem knOf_apply (c : Dev nD) (kv : Fin 8) (d : Fin 64) (b : Fin 128) (hk : 64 * kv.val + d.val < 512) :
    knOf m c (ix2 ⟨64 * kv.val + d.val, hk⟩ b) = Spec.deq (Spec.qCode (knA m c b kv) d) (Spec.qScale (knA m c b kv)) := by
  unfold knOf
  rw [kNew_apply]
  simp only [blk1]
/-- The dequantised new values. -/
theorem vnOf_apply (c : Dev nD) (kv : Fin 8) (d : Fin 64) (b : Fin 128) (hk : 64 * kv.val + d.val < 512) :
    vnOf m c (ix2 ⟨64 * kv.val + d.val, hk⟩ b) = Spec.deq (Spec.qCode (vnA m c b kv) d) (Spec.qScale (vnA m c b kv)) := by
  unfold vnOf
  rw [vNew_apply]
  simp only [blk2]

/-- The attention output of the kernel, from its arguments. -/
def yK (c : Dev nD) : Fin 128 → Fin 32 → Fin 64 → EReal :=
  Spec.yG (qA m c) (knA m c) (vnA m c) (kcA m c) (ksA m c) (vcA m c) (vsA m c)

/-- The attention output's block at a grid point is the attention of that sequence. -/
theorem yAt_apply (c : Dev nD) (t : Fin cfg0.N) (h : Fin 32) (d : Fin 64) : yAt m c t (ix3 0 h d) = yK m c (seqOf t) h d := by
  unfold yAt yK Spec.yG
  rw [show (grid0.coords t 0).val = (seqOf t).val from coord_eq t]
  have e1 (x : Fin 64) : (⟨(64 * (h.val / 4) + x.val) / 64, by omega⟩ : Fin 8) = ⟨h.val / 4, Spec.lt5 h⟩ := Fin.ext (by simp only; omega)
  have e2 (x : Fin 64) : (⟨(64 * (h.val / 4) + x.val) % 64, by omega⟩ : Fin 64) = x := Fin.ext (by simp only; omega)
  refine (yOut_apply (seqOf t) _ _ _ _ _ _ _ h d _ _ ?_ ?_ ?_ ?_).trans (congrArg (fun q => Spec.attn q _ _ d) (funext fun x => blk0 m c t h x))
  · intro t' x
    rw [blk3, blk4, e1, e2]
    unfold Spec.rows
    rw [dif_pos t'.isLt]
  · intro x
    refine Eq.trans ?_ (knOf_apply m c ⟨h.val / 4, Spec.lt5 h⟩ x (seqOf t) (by simp only; omega)).symm
    unfold Spec.rows
    rw [dif_neg (lt_irrefl _)]
  · intro t'
    rw [blk5, blk6, e1, e2]
    unfold Spec.rows
    rw [dif_pos t'.isLt]
  · refine Eq.trans ?_ (vnOf_apply m c ⟨h.val / 4, Spec.lt5 h⟩ d (seqOf t) (by simp only; omega)).symm
    unfold Spec.rows
    rw [dif_neg (lt_irrefl _)]

/-! ## The arrays after the last grid point -/

theorem arr7 (c : Dev nD) : (dats m 0 c).arrAt 7 cfg0.N = fun y => yK m c (y 0) (y 1) (y 2) := by
  refine (dats m 0 c).arrAt_eq_of_covers 7 _ (by decide +kernel) fun t hf y => ?_
  blk_simp
  rw [after0_7]
  obtain ⟨z, h, d, rfl⟩ : ∃ (z : Fin 1) (h : Fin 32) (d : Fin 64), y = ix3 z h d := ⟨y 0, y 1, y 2, (ix3_eta (n0 := 1) (n1 := 32) (n2 := 64) y).symm⟩
  obtain rfl : z = 0 := Subsingleton.elim _ _
  have e := index7 t
  refine (yAt_apply m c t h d).trans ?_
  congr 1
  · refine Fin.ext ?_
    blk_simp [e.1]
    rfl
  · refine Fin.ext ?_
    blk_simp [e.2.1]
  · refine Fin.ext ?_
    blk_simp [e.2.2]
theorem arr8 (c : Dev nD) : (dats m 0 c).arrAt 8 cfg0.N = kcOf m c := by
  refine (dats m 0 c).arrAt_eq_of_covers 8 _ (by decide +kernel) fun t hf y => ?_
  blk_simp
  rw [after0_8]
  have e := index8 t
  refine congrArg (kcOf m c) (funext fun a => Fin.ext ?_)
  match a with
  | ⟨0, _⟩ => blk_simp [e.1]
  | ⟨1, _⟩ => blk_simp [e.2.1]
  | ⟨2, _⟩ => blk_simp [e.2.2]
theorem arr9 (c : Dev nD) : (dats m 0 c).arrAt 9 cfg0.N = ksOf m c := by
  refine (dats m 0 c).arrAt_eq_of_covers 9 _ (by decide +kernel) fun t hf y => ?_
  blk_simp
  rw [after0_9]
  have e := index9 t
  refine congrArg (ksOf m c) (funext fun a => Fin.ext ?_)
  match a with
  | ⟨0, _⟩ => blk_simp [e.1]
  | ⟨1, _⟩ => blk_simp [e.2]
theorem arr10 (c : Dev nD) : (dats m 0 c).arrAt 10 cfg0.N = vcOf m c := by
  refine (dats m 0 c).arrAt_eq_of_covers 10 _ (by decide +kernel) fun t hf y => ?_
  blk_simp
  rw [after0_10]
  have e := index10 t
  refine congrArg (vcOf m c) (funext fun a => Fin.ext ?_)
  match a with
  | ⟨0, _⟩ => blk_simp [e.1]
  | ⟨1, _⟩ => blk_simp [e.2.1]
  | ⟨2, _⟩ => blk_simp [e.2.2]
theorem arr11 (c : Dev nD) : (dats m 0 c).arrAt 11 cfg0.N = vsOf m c := by
  refine (dats m 0 c).arrAt_eq_of_covers 11 _ (by decide +kernel) fun t hf y => ?_
  blk_simp
  rw [after0_11]
  have e := index11 t
  refine congrArg (vsOf m c) (funext fun a => Fin.ext ?_)
  match a with
  | ⟨0, _⟩ => blk_simp [e.1]
  | ⟨1, _⟩ => blk_simp [e.2]

/-! ## The results -/

/-- The attention output of the kernel. -/
theorem out12 (c : Dev nD) (b : Fin 128) (j : Fin 2048) :
    Pipeline.afterTail₀ cfgs (dats m) 0 (V0 m) [hostOps1] c main_v12 (ix3 b 0 j) = yK m c b ⟨j.val / 64, by omega⟩ ⟨j.val % 64, by omega⟩ := by
  unfold Pipeline.afterTail₀
  after_reads_at
  refine (congrFun (Pipeline.withArrays_arr spec0 (by decide) c _ _ 7) _).trans ?_
  exact congrFun (arr7 m c) _
/-- The codes of the new keys. -/
theorem out14 (c : Dev nD) (b : Fin 128) (h : Fin 8) (d : Fin 64) :
    Pipeline.afterTail₀ cfgs (dats m) 0 (V0 m) [hostOps1] c main_v14 (ix4 b 0 h d) = Spec.qCode (knA m c b h) d := by
  unfold Pipeline.afterTail₀
  after_reads_at
  refine (congrFun (Pipeline.withArrays_arr spec0 (by decide) c _ _ 8) _).trans ?_
  exact (congrFun (arr8 m c) _).trans (kcOf_apply m c h d b)
/-- The scales of the new keys. -/
theorem out16 (c : Dev nD) (b : Fin 128) (h : Fin 8) :
    Pipeline.afterTail₀ cfgs (dats m) 0 (V0 m) [hostOps1] c main_v16 (ix3 b 0 h) = Spec.qScale (knA m c b h) := by
  unfold Pipeline.afterTail₀
  after_reads_at
  refine (congrFun (Pipeline.withArrays_arr spec0 (by decide) c _ _ 9) _).trans ?_
  exact (congrFun (arr9 m c) _).trans (ksOf_apply m c h b)
/-- The codes of the new values. -/
theorem out18 (c : Dev nD) (b : Fin 128) (h : Fin 8) (d : Fin 64) :
    Pipeline.afterTail₀ cfgs (dats m) 0 (V0 m) [hostOps1] c main_v18 (ix4 b 0 h d) = Spec.qCode (vnA m c b h) d := by
  unfold Pipeline.afterTail₀
  after_reads_at
  refine (congrFun (Pipeline.withArrays_arr spec0 (by decide) c _ _ 10) _).trans ?_
  exact (congrFun (arr10 m c) _).trans (vcOf_apply m c h d b)
/-- The scales of the new values. -/
theorem out20 (c : Dev nD) (b : Fin 128) (h : Fin 8) :
    Pipeline.afterTail₀ cfgs (dats m) 0 (V0 m) [hostOps1] c main_v20 (ix3 b 0 h) = Spec.qScale (vnA m c b h) := by
  unfold Pipeline.afterTail₀
  after_reads_at
  refine (congrFun (Pipeline.withArrays_arr spec0 (by decide) c _ _ 11) _).trans ?_
  exact (congrFun (arr11 m c) _).trans (vsOf_apply m c h b)

end Cert.KernelIdeal.Hand

end
-- ==== Proof.RMath.lean ====
module

public import proofs.«01_k».proof.Proof.Gen.ReferenceIdeal
public import proofs.«01_k».proof.Proof.Gen.ReferenceIdeal.Frame
public import proofs.«01_k».proof.Proof.Spec
public import Idealize.ShloMosaic.Lib.Pointwise
public import Idealize.ShloMosaic.Lib.Pipeline.ValueKit

@[expose] public section

/-! The reference's region read at an index: scales, codes, dequantised rows and attention of one sequence and head. -/

set_option maxRecDepth 16384

noncomputable section

namespace Cert.ReferenceIdeal.Hand

open Cert.ReferenceIdeal Cert.ReferenceIdeal.Gen
open Idealize.ShloMosaic Idealize.ShloMosaic.Tactic

/-- The scale of a new key row. -/
theorem kScale_apply (x : Vec Ideal S1024x1x64 .bf16) (n : Fin 1024) (z : Fin 1) :
    k0_pay3 (F := Ideal) x (ix2 n z) = Spec.qScale fun d => x (ix3 n 0 d) := by
  obtain rfl : z = 0 := Subsingleton.elim _ _
  pointwise [k0_pay3, k0_pay2]
  rfl

/-- The code of a new key entry. -/
theorem kCode_apply (x : Vec Ideal S1024x1x64 .bf16) (n : Fin 1024) (z : Fin 1) (d : Fin 64) :
    k0_pay4 (F := Ideal) x (ix3 n z d) = Spec.qCode (fun d => x (ix3 n 0 d)) d := by
  obtain rfl : z = 0 := Subsingleton.elim _ _
  pointwise [k0_pay4, k0_pay3, k0_pay2]
  rfl

/-- The scale of a new value row. -/
theorem vScale_apply (x : Vec Ideal S1024x1x64 .bf16) (n : Fin 1024) (z : Fin 1) :
    k0_pay6 (F := Ideal) x (ix2 n z) = Spec.qScale fun d => x (ix3 n 0 d) := by
  obtain rfl : z = 0 := Subsingleton.elim _ _
  pointwise [k0_pay6, k0_pay5]
  rfl

/-- The code of a new value entry. -/
theorem vCode_apply (x : Vec Ideal S1024x1x64 .bf16) (n : Fin 1024) (z : Fin 1) (d : Fin 64) :
    k0_pay7 (F := Ideal) x (ix3 n z d) = Spec.qCode (fun d => x (ix3 n 0 d)) d := by
  obtain rfl : z = 0 := Subsingleton.elim _ _
  pointwise [k0_pay7, k0_pay6, k0_pay5]
  rfl

/-- The dequantised keys: the cached positions, then the new one. -/
theorem kRows_apply (s : FVec Ideal S1024x1 .f32) (c : IVec S1024x1x64 8) (cc : Vec Ideal S1024x8192x64 .i8)
    (ss : Vec Ideal S1024x8192 .f32) (r : Fin 64 → EReal) (n : Fin 1024) (hs : s (ix2 n 0) = Spec.qScale r)
    (hc : ∀ d, c (ix3 n 0 d) = Spec.qCode r d) (t : Fin 8193) (d : Fin 64) :
    k0_pay8 (F := Ideal) s c cc ss (ix3 n t d) = Spec.rows (fun t x => cc (ix3 n t x)) (fun t => ss (ix2 n t)) r t d := by
  unfold Spec.rows Spec.deq
  rw [← hs, ← hc]
  pointwise [k0_pay8]
  exact dite_congr rfl (fun _ => rfl) fun _ =>
    congrArg (fun z => FloatOps.sitofp (F := Ideal) .bf16 (c (ix3 n z d)) * s (ix2 n 0)) (Subsingleton.elim _ _)

/-- The dequantised values: the cached positions, then the new one. -/
theorem vRows_apply (s : FVec Ideal S1024x1 .f32) (c : IVec S1024x1x64 8) (cc : Vec Ideal S1024x8192x64 .i8)
    (ss : Vec Ideal S1024x8192 .f32) (r : Fin 64 → EReal) (n : Fin 1024) (hs : s (ix2 n 0) = Spec.qScale r)
    (hc : ∀ d, c (ix3 n 0 d) = Spec.qCode r d) (t : Fin 8193) (d : Fin 64) :
    k0_pay9 (F := Ideal) s c cc ss (ix3 n t d) = Spec.rows (fun t x => cc (ix3 n t x)) (fun t => ss (ix2 n t)) r t d := by
  unfold Spec.rows Spec.deq
  rw [← hs, ← hc]
  pointwise [k0_pay9]
  exact dite_congr rfl (fun _ => rfl) fun _ =>
    congrArg (fun z => FloatOps.sitofp (F := Ideal) .bf16 (c (ix3 n z d)) * s (ix2 n 0)) (Subsingleton.elim _ _)

/-- The attention of one row of queries over the dequantised keys and values. -/
theorem attn_apply (k v : FVec Ideal S1024x8193x64 .bf16) (q : Vec Ideal S1024x4x64 .bf16) (n : Fin 1024) (g : Fin 4) (d : Fin 64) :
    k0_pay1 (F := Ideal) k v q (ix3 n g d)
      = Spec.attn (fun x => q (ix3 n g x)) (fun t x => k (ix3 n t x)) (fun t x => v (ix3 n t x)) d := by
  pointwise [k0_pay1]
  rfl

/-- What the region leaves of the new keys' codes. -/
theorem out8_apply (x0 : Vec Ideal S1024x4x64 .bf16) (x1 x2 : Vec Ideal S1024x1x64 .bf16) (x3 : Vec Ideal S1024x8192x64 .i8)
    (x4 : Vec Ideal S1024x8192 .f32) (x5 : Vec Ideal S1024x8192x64 .i8) (x6 : Vec Ideal S1024x8192 .f32)
    (n : Fin 1024) (z : Fin 1) (d : Fin 64) : out0_8 (F := Ideal) x0 x1 x2 x3 x4 x5 x6 (ix3 n z d) = Spec.qCode (fun d => x1 (ix3 n 0 d)) d := by
  unfold_out out0_8
  rw [View.canon_unit_zero (by decide), View.ld_unit_zero (by decide)]
  exact kCode_apply x1 n z d

/-- What the region leaves of the new keys' scales. -/
theorem out9_apply (x0 : Vec Ideal S1024x4x64 .bf16) (x1 x2 : Vec Ideal S1024x1x64 .bf16) (x3 : Vec Ideal S1024x8192x64 .i8)
    (x4 : Vec Ideal S1024x8192 .f32) (x5 : Vec Ideal S1024x8192x64 .i8) (x6 : Vec Ideal S1024x8192 .f32)
    (n : Fin 1024) (z : Fin 1) : out0_9 (F := Ideal) x0 x1 x2 x3 x4 x5 x6 (ix2 n z) = Spec.qScale fun d => x1 (ix3 n 0 d) := by
  unfold_out out0_9
  rw [View.canon_unit_zero (by decide), View.ld_unit_zero (by decide)]
  exact kScale_apply x1 n z

/-- What the region leaves of the new values' codes. -/
theorem out10_apply (x0 : Vec Ideal S1024x4x64 .bf16) (x1 x2 : Vec Ideal S1024x1x64 .bf16) (x3 : Vec Ideal S1024x8192x64 .i8)
    (x4 : Vec Ideal S1024x8192 .f32) (x5 : Vec Ideal S1024x8192x64 .i8) (x6 : Vec Ideal S1024x8192 .f32)
    (n : Fin 1024) (z : Fin 1) (d : Fin 64) : out0_10 (F := Ideal) x0 x1 x2 x3 x4 x5 x6 (ix3 n z d) = Spec.qCode (fun d => x2 (ix3 n 0 d)) d := by
  unfold_out out0_10
  rw [View.canon_unit_zero (by decide), View.ld_unit_zero (by decide)]
  exact vCode_apply x2 n z d

/-- What the region leaves of the new values' scales. -/
theorem out11_apply (x0 : Vec Ideal S1024x4x64 .bf16) (x1 x2 : Vec Ideal S1024x1x64 .bf16) (x3 : Vec Ideal S1024x8192x64 .i8)
    (x4 : Vec Ideal S1024x8192 .f32) (x5 : Vec Ideal S1024x8192x64 .i8) (x6 : Vec Ideal S1024x8192 .f32)
    (n : Fin 1024) (z : Fin 1) : out0_11 (F := Ideal) x0 x1 x2 x3 x4 x5 x6 (ix2 n z) = Spec.qScale fun d => x2 (ix3 n 0 d) := by
  unfold_out out0_11
  rw [View.canon_unit_zero (by decide), View.ld_unit_zero (by decide)]
  exact vScale_apply x2 n z

/-- What the region leaves of the attention output. -/
theorem out7_apply (x0 : Vec Ideal S1024x4x64 .bf16) (x1 x2 : Vec Ideal S1024x1x64 .bf16) (x3 : Vec Ideal S1024x8192x64 .i8)
    (x4 : Vec Ideal S1024x8192 .f32) (x5 : Vec Ideal S1024x8192x64 .i8) (x6 : Vec Ideal S1024x8192 .f32)
    (n : Fin 1024) (g : Fin 4) (d : Fin 64) : out0_7 (F := Ideal) x0 x1 x2 x3 x4 x5 x6 (ix3 n g d)
      = Spec.attn (fun x => x0 (ix3 n g x))
          (Spec.rows (fun t x => x3 (ix3 n t x)) (fun t => x4 (ix2 n t)) fun d => x1 (ix3 n 0 d))
          (Spec.rows (fun t x => x5 (ix3 n t x)) (fun t => x6 (ix2 n t)) fun d => x2 (ix3 n 0 d)) d := by
  unfold_out out0_7
  rw [View.canon_unit_zero (by decide)]
  repeat rw [View.ld_unit_zero (by decide)]
  refine (attn_apply _ _ _ n g d).trans (congrArg₂ (fun k v => Spec.attn _ k v d) ?_ ?_)
  · exact funext fun t => funext fun x => kRows_apply _ _ _ _ _ n (kScale_apply x1 n 0) (fun d => kCode_apply x1 n 0 d) t x
  · exact funext fun t => funext fun x => vRows_apply _ _ _ _ _ n (vScale_apply x2 n 0) (fun d => vCode_apply x2 n 0 d) t x

end Cert.ReferenceIdeal.Hand

end
-- ==== Proof.RArr.lean ====
module

public import proofs.«01_k».proof.Proof.RMath
public import Idealize.ShloMosaic.Lib.Pipeline.ValueKit
public import Idealize.ShloMosaic.Lib.StableHlo.ReadAt
public import Idealize.ShloMosaic.Lib.Claim

@[expose] public section

/-! The reference's results read at an index, as functions of its arguments: the host lines before the region, the region's
    arrays, and the host lines after it. -/

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.ShloMosaic.Pipeline (Dat Cfg Window)

variable (m : (ℓ : Loc nD τ sig) → Buf (Elt Ideal) ℓ)

/-! ## The arguments by sequence, position, head and channel -/

/-- The queries. -/
def qA (c : Dev nD) (b : Fin 128) (x : Fin 2048) : EReal := m ((c : Thread nD τ).loc main_arg0) (ix3 b 0 x)
/-- The new keys. -/
def knA (c : Dev nD) (b : Fin 128) (h : Fin 8) (x : Fin 64) : EReal := m ((c : Thread nD τ).loc main_arg1) (ix4 b 0 h x)
/-- The new values. -/
def vnA (c : Dev nD) (b : Fin 128) (h : Fin 8) (x : Fin 64) : EReal := m ((c : Thread nD τ).loc main_arg2) (ix4 b 0 h x)
/-- The codes of the cached keys. -/
def kcA (c : Dev nD) (b : Fin 128) (t : Fin 8192) (h : Fin 8) (x : Fin 64) : BitVec 8 := m ((c : Thread nD τ).loc main_arg3) (ix4 b t h x)
/-- The scales of the cached keys. -/
def ksA (c : Dev nD) (b : Fin 128) (t : Fin 8192) (h : Fin 8) : EReal := m ((c : Thread nD τ).loc main_arg4) (ix3 b t h)
/-- The codes of the cached values. -/
def vcA (c : Dev nD) (b : Fin 128) (t : Fin 8192) (h : Fin 8) (x : Fin 64) : BitVec 8 := m ((c : Thread nD τ).loc main_arg5) (ix4 b t h x)
/-- The scales of the cached values. -/
def vsA (c : Dev nD) (b : Fin 128) (t : Fin 8192) (h : Fin 8) : EReal := m ((c : Thread nD τ).loc main_arg6) (ix3 b t h)

/-! ## The operands of the region, a row of each for every sequence and head -/

theorem ltN (b : Fin 128) (k : Fin 8) : 8 * b.val + k.val < 1024 := by omega
theorem ltH (k : Fin 8) (g : Fin 4) : 4 * k.val + g.val < 32 := by omega
/-- The row of a sequence and a key-value head. -/
def rowOf (b : Fin 128) (k : Fin 8) : Fin 1024 := ⟨8 * b.val + k.val, ltN b k⟩
/-- The query head of a key-value head and a member of its group. -/
def headOf (k : Fin 8) (g : Fin 4) : Fin 32 := ⟨4 * k.val + g.val, ltH k g⟩

theorem in0 (c : Dev nD) (b : Fin 128) (k : Fin 8) (g : Fin 4) (x : Fin 64) : V m c main_v0 (ix3 (rowOf b k) g x) = qA m c b ⟨64 * (headOf k g).val + x.val, Spec.lt6 _ x⟩ := by
  unfold V V0 qA rowOf
  after_reads_at
  refine congrArg (m ((c : Thread nD τ).loc main_arg0)) (funext fun a => Fin.ext ?_)
  match a with
  | ⟨0, _⟩ => simp [ix3]
  | ⟨1, _⟩ => simp [ix3]
  | ⟨2, _⟩ => simp [ix3, headOf]; omega
theorem in1 (c : Dev nD) (b : Fin 128) (k : Fin 8) (x : Fin 64) : V m c main_v2 (ix3 (rowOf b k) 0 x) = knA m c b k x := by
  unfold V V0 knA rowOf
  after_reads_at
theorem in2 (c : Dev nD) (b : Fin 128) (k : Fin 8) (x : Fin 64) : V m c main_v4 (ix3 (rowOf b k) 0 x) = vnA m c b k x := by
  unfold V V0 vnA rowOf
  after_reads_at
theorem in3 (c : Dev nD) (b : Fin 128) (k : Fin 8) (t : Fin 8192) (x : Fin 64) : V m c main_v6 (ix3 (rowOf b k) t x) = kcA m c b t k x := by
  unfold V V0 kcA rowOf
  after_reads_at
theorem in4 (c : Dev nD) (b : Fin 128) (k : Fin 8) (t : Fin 8192) : V m c main_v8 (ix2 (rowOf b k) t) = ksA m c b t k := by
  unfold V V0 ksA rowOf
  after_reads_at
theorem in5 (c : Dev nD) (b : Fin 128) (k : Fin 8) (t : Fin 8192) (x : Fin 64) : V m c main_v10 (ix3 (rowOf b k) t x) = vcA m c b t k x := by
  unfold V V0 vcA rowOf
  after_reads_at
theorem in6 (c : Dev nD) (b : Fin 128) (k : Fin 8) (t : Fin 8192) : V m c main_v12 (ix2 (rowOf b k) t) = vsA m c b t k := by
  unfold V V0 vsA rowOf
  after_reads_at

/-! ## The one grid point's blocks are the whole arrays -/

theorem index0 : ∀ t : Fin cfg0.N, win0_0.index t 0 = 0 ∧ win0_0.index t 1 = 0 ∧ win0_0.index t 2 = 0 := by decide +kernel
theorem index1 : ∀ t : Fin cfg0.N, win0_1.index t 0 = 0 ∧ win0_1.index t 1 = 0 ∧ win0_1.index t 2 = 0 := by decide +kernel
theorem index2 : ∀ t : Fin cfg0.N, win0_2.index t 0 = 0 ∧ win0_2.index t 1 = 0 ∧ win0_2.index t 2 = 0 := by decide +kernel
theorem index3 : ∀ t : Fin cfg0.N, win0_3.index t 0 = 0 ∧ win0_3.index t 1 = 0 ∧ win0_3.index t 2 = 0 := by decide +kernel
theorem index4 : ∀ t : Fin cfg0.N, win0_4.index t 0 = 0 ∧ win0_4.index t 1 = 0 := by decide +kernel
theorem index5 : ∀ t : Fin cfg0.N, win0_5.index t 0 = 0 ∧ win0_5.index t 1 = 0 ∧ win0_5.index t 2 = 0 := by decide +kernel
theorem index6 : ∀ t : Fin cfg0.N, win0_6.index t 0 = 0 ∧ win0_6.index t 1 = 0 := by decide +kernel
theorem index7 : ∀ t : Fin cfg0.N, win0_7.index t 0 = 0 ∧ win0_7.index t 1 = 0 ∧ win0_7.index t 2 = 0 := by decide +kernel
theorem index8 : ∀ t : Fin cfg0.N, win0_8.index t 0 = 0 ∧ win0_8.index t 1 = 0 ∧ win0_8.index t 2 = 0 := by decide +kernel
theorem index9 : ∀ t : Fin cfg0.N, win0_9.index t 0 = 0 ∧ win0_9.index t 1 = 0 := by decide +kernel
theorem index10 : ∀ t : Fin cfg0.N, win0_10.index t 0 = 0 ∧ win0_10.index t 1 = 0 ∧ win0_10.index t 2 = 0 := by decide +kernel
theorem index11 : ∀ t : Fin cfg0.N, win0_11.index t 0 = 0 ∧ win0_11.index t 1 = 0 := by decide +kernel

theorem blk0 (c : Dev nD) (t : Fin cfg0.N) (b : Fin 128) (k : Fin 8) (g : Fin 4) (x : Fin 64) : iblk m c 0 t (ix3 (rowOf b k) g x) = qA m c b ⟨64 * (headOf k g).val + x.val, Spec.lt6 _ x⟩ := by
  refine Eq.trans ?_ (in0 m c b k g x)
  blk_simp [iblk]
  have e := index0 t
  refine congrArg _ (funext fun a => Fin.ext ?_)
  match a with
  | ⟨0, _⟩ => blk_simp [e.1]
  | ⟨1, _⟩ => blk_simp [e.2.1]
  | ⟨2, _⟩ => blk_simp [e.2.2]
theorem blk1 (c : Dev nD) (t : Fin cfg0.N) (b : Fin 128) (k : Fin 8) (x : Fin 64) : iblk m c 1 t (ix3 (rowOf b k) 0 x) = knA m c b k x := by
  refine Eq.trans ?_ (in1 m c b k x)
  blk_simp [iblk]
  have e := index1 t
  refine congrArg _ (funext fun a => Fin.ext ?_)
  match a with
  | ⟨0, _⟩ => blk_simp [e.1]
  | ⟨1, _⟩ => blk_simp [e.2.1]
  | ⟨2, _⟩ => blk_simp [e.2.2]
theorem blk2 (c : Dev nD) (t : Fin cfg0.N) (b : Fin 128) (k : Fin 8) (x : Fin 64) : iblk m c 2 t (ix3 (rowOf b k) 0 x) = vnA m c b k x := by
  refine Eq.trans ?_ (in2 m c b k x)
  blk_simp [iblk]
  have e := index2 t
  refine congrArg _ (funext fun a => Fin.ext ?_)
  match a with
  | ⟨0, _⟩ => blk_simp [e.1]
  | ⟨1, _⟩ => blk_simp [e.2.1]
  | ⟨2, _⟩ => blk_simp [e.2.2]
theorem blk3 (c : Dev nD) (t : Fin cfg0.N) (b : Fin 128) (k : Fin 8) (s : Fin 8192) (x : Fin 64) : iblk m c 3 t (ix3 (rowOf b k) s x) = kcA m c b s k x := by
  refine Eq.trans ?_ (in3 m c b k s x)
  blk_simp [iblk]
  have e := index3 t
  refine congrArg _ (funext fun a => Fin.ext ?_)
  match a with
  | ⟨0, _⟩ => blk_simp [e.1]
  | ⟨1, _⟩ => blk_simp [e.2.1]
  | ⟨2, _⟩ => blk_simp [e.2.2]
theorem blk4 (c : Dev nD) (t : Fin cfg0.N) (b : Fin 128) (k : Fin 8) (s : Fin 8192) : iblk m c 4 t (ix2 (rowOf b k) s) = ksA m c b s k := by
  refine Eq.trans ?_ (in4 m c b k s)
  blk_simp [iblk]
  have e := index4 t
  refine congrArg _ (funext fun a => Fin.ext ?_)
  match a with
  | ⟨0, _⟩ => blk_simp [e.1]
  | ⟨1, _⟩ => blk_simp [e.2]
theorem blk5 (c : Dev nD) (t : Fin cfg0.N) (b : Fin 128) (k : Fin 8) (s : Fin 8192) (x : Fin 64) : iblk m c 5 t (ix3 (rowOf b k) s x) = vcA m c b s k x := by
  refine Eq.trans ?_ (in5 m c b k s x)
  blk_simp [iblk]
  have e := index5 t
  refine congrArg _ (funext fun a => Fin.ext ?_)
  match a with
  | ⟨0, _⟩ => blk_simp [e.1]
  | ⟨1, _⟩ => blk_simp [e.2.1]
  | ⟨2, _⟩ => blk_simp [e.2.2]
theorem blk6 (c : Dev nD) (t : Fin cfg0.N) (b : Fin 128) (k : Fin 8) (s : Fin 8192) : iblk m c 6 t (ix2 (rowOf b k) s) = vsA m c b s k := by
  refine Eq.trans ?_ (in6 m c b k s)
  blk_simp [iblk]
  have e := index6 t
  refine congrArg _ (funext fun a => Fin.ext ?_)
  match a with
  | ⟨0, _⟩ => blk_simp [e.1]
  | ⟨1, _⟩ => blk_simp [e.2]

/-! ## The arrays after the grid point -/

theorem arr7 (c : Dev nD) : (dats m 0 c).arrAt 7 cfg0.N
    = out0_7 (F := Ideal) (iblk m c 0 t0_0) (iblk m c 1 t0_0) (iblk m c 2 t0_0) (iblk m c 3 t0_0) (iblk m c 4 t0_0) (iblk m c 5 t0_0) (iblk m c 6 t0_0) := by
  refine (dats m 0 c).arrAt_eq_of_covers 7 _ (by decide +kernel) fun t hf y => ?_
  obtain rfl : t = t0_0 := fin_N0 t
  blk_simp
  rw [after0_7]
  have e := index7 t0_0
  refine congrArg _ (funext fun a => Fin.ext ?_)
  match a with
  | ⟨0, _⟩ => blk_simp [e.1]
  | ⟨1, _⟩ => blk_simp [e.2.1]
  | ⟨2, _⟩ => blk_simp [e.2.2]
theorem arr8 (c : Dev nD) : (dats m 0 c).arrAt 8 cfg0.N
    = out0_8 (F := Ideal) (iblk m c 0 t0_0) (iblk m c 1 t0_0) (iblk m c 2 t0_0) (iblk m c 3 t0_0) (iblk m c 4 t0_0) (iblk m c 5 t0_0) (iblk m c 6 t0_0) := by
  refine (dats m 0 c).arrAt_eq_of_covers 8 _ (by decide +kernel) fun t hf y => ?_
  obtain rfl : t = t0_0 := fin_N0 t
  blk_simp
  rw [after0_8]
  have e := index8 t0_0
  refine congrArg _ (funext fun a => Fin.ext ?_)
  match a with
  | ⟨0, _⟩ => blk_simp [e.1]
  | ⟨1, _⟩ => blk_simp [e.2.1]
  | ⟨2, _⟩ => blk_simp [e.2.2]
theorem arr9 (c : Dev nD) : (dats m 0 c).arrAt 9 cfg0.N
    = out0_9 (F := Ideal) (iblk m c 0 t0_0) (iblk m c 1 t0_0) (iblk m c 2 t0_0) (iblk m c 3 t0_0) (iblk m c 4 t0_0) (iblk m c 5 t0_0) (iblk m c 6 t0_0) := by
  refine (dats m 0 c).arrAt_eq_of_covers 9 _ (by decide +kernel) fun t hf y => ?_
  obtain rfl : t = t0_0 := fin_N0 t
  blk_simp
  rw [after0_9]
  have e := index9 t0_0
  refine congrArg _ (funext fun a => Fin.ext ?_)
  match a with
  | ⟨0, _⟩ => blk_simp [e.1]
  | ⟨1, _⟩ => blk_simp [e.2]
theorem arr10 (c : Dev nD) : (dats m 0 c).arrAt 10 cfg0.N
    = out0_10 (F := Ideal) (iblk m c 0 t0_0) (iblk m c 1 t0_0) (iblk m c 2 t0_0) (iblk m c 3 t0_0) (iblk m c 4 t0_0) (iblk m c 5 t0_0) (iblk m c 6 t0_0) := by
  refine (dats m 0 c).arrAt_eq_of_covers 10 _ (by decide +kernel) fun t hf y => ?_
  obtain rfl : t = t0_0 := fin_N0 t
  blk_simp
  rw [after0_10]
  have e := index10 t0_0
  refine congrArg _ (funext fun a => Fin.ext ?_)
  match a with
  | ⟨0, _⟩ => blk_simp [e.1]
  | ⟨1, _⟩ => blk_simp [e.2.1]
  | ⟨2, _⟩ => blk_simp [e.2.2]
theorem arr11 (c : Dev nD) : (dats m 0 c).arrAt 11 cfg0.N
    = out0_11 (F := Ideal) (iblk m c 0 t0_0) (iblk m c 1 t0_0) (iblk m c 2 t0_0) (iblk m c 3 t0_0) (iblk m c 4 t0_0) (iblk m c 5 t0_0) (iblk m c 6 t0_0) := by
  refine (dats m 0 c).arrAt_eq_of_covers 11 _ (by decide +kernel) fun t hf y => ?_
  obtain rfl : t = t0_0 := fin_N0 t
  blk_simp
  rw [after0_11]
  have e := index11 t0_0
  refine congrArg _ (funext fun a => Fin.ext ?_)
  match a with
  | ⟨0, _⟩ => blk_simp [e.1]
  | ⟨1, _⟩ => blk_simp [e.2]

/-! ## The results -/

/-- The attention output of the reference, from its arguments. -/
def yR (c : Dev nD) : Fin 128 → Fin 32 → Fin 64 → EReal :=
  Spec.yG (qA m c) (knA m c) (vnA m c) (kcA m c) (ksA m c) (vcA m c) (vsA m c)

/-- A row of the region's attention output is the attention of that sequence and head. -/
theorem row7 (c : Dev nD) (b : Fin 128) (k : Fin 8) (g : Fin 4) (d : Fin 64) :
    (dats m 0 c).arrAt 7 cfg0.N (ix3 (rowOf b k) g d) = yR m c b (headOf k g) d := by
  have e : (⟨(headOf k g).val / 4, Spec.lt5 _⟩ : Fin 8) = k := Fin.ext (by simp only [headOf]; omega)
  rw [arr7, out7_apply]
  unfold yR Spec.yG
  rw [e]
  simp only [blk0, blk1, blk2, blk3, blk4, blk5, blk6]
theorem row8 (c : Dev nD) (b : Fin 128) (k : Fin 8) (d : Fin 64) :
    (dats m 0 c).arrAt 8 cfg0.N (ix3 (rowOf b k) 0 d) = Spec.qCode (knA m c b k) d := by
  rw [arr8, out8_apply]
  simp only [blk1]
theorem row9 (c : Dev nD) (b : Fin 128) (k : Fin 8) :
    (dats m 0 c).arrAt 9 cfg0.N (ix2 (rowOf b k) 0) = Spec.qScale (knA m c b k) := by
  rw [arr9, out9_apply]
  simp only [blk1]
theorem row10 (c : Dev nD) (b : Fin 128) (k : Fin 8) (d : Fin 64) :
    (dats m 0 c).arrAt 10 cfg0.N (ix3 (rowOf b k) 0 d) = Spec.qCode (vnA m c b k) d := by
  rw [arr10, out10_apply]
  simp only [blk2]
theorem row11 (c : Dev nD) (b : Fin 128) (k : Fin 8) :
    (dats m 0 c).arrAt 11 cfg0.N (ix2 (rowOf b k) 0) = Spec.qScale (vnA m c b k) := by
  rw [arr11, out11_apply]
  simp only [blk2]

/-- The attention output of the reference. -/
theorem out14 (c : Dev nD) (b : Fin 128) (j : Fin 2048) :
    Pipeline.afterTail₀ cfgs (dats m) 0 (V0 m) [hostOps1] c main_v14 (ix3 b 0 j) = yR m c b ⟨j.val / 64, by omega⟩ ⟨j.val % 64, by omega⟩ := by
  unfold Pipeline.afterTail₀
  after_reads_at
  refine (congrFun (Pipeline.withArrays_arr spec0 (by decide) c _ _ 7) _).trans ?_
  have h := row7 m c b ⟨j.val / 256, by omega⟩ ⟨j.val / 64 % 4, by omega⟩ ⟨j.val % 64, by omega⟩
  have e : headOf ⟨j.val / 256, by omega⟩ ⟨j.val / 64 % 4, by omega⟩ = ⟨j.val / 64, by omega⟩ := Fin.ext (by simp only [headOf]; omega)
  rw [e] at h
  refine Eq.trans ?_ h
  refine congrArg ((dats m 0 c).arrAt 7 cfg0.N) (funext fun a => Fin.ext ?_)
  match a with
  | ⟨0, _⟩ => simp [ix3, rowOf]; omega
  | ⟨1, _⟩ => simp [ix3]
  | ⟨2, _⟩ => simp [ix3]
/-- The codes of the new keys. -/
theorem out15 (c : Dev nD) (b : Fin 128) (k : Fin 8) (d : Fin 64) :
    Pipeline.afterTail₀ cfgs (dats m) 0 (V0 m) [hostOps1] c main_v15 (ix4 b 0 k d) = Spec.qCode (knA m c b k) d := by
  unfold Pipeline.afterTail₀
  after_reads_at
  refine (congrFun (Pipeline.withArrays_arr spec0 (by decide) c _ _ 8) _).trans (Eq.trans ?_ (row8 m c b k d))
  refine congrArg ((dats m 0 c).arrAt 8 cfg0.N) (funext fun a => Fin.ext ?_)
  match a with
  | ⟨0, _⟩ => simp [ix3, rowOf]; omega
  | ⟨1, _⟩ => simp [ix3]
  | ⟨2, _⟩ => simp [ix3]
/-- The scales of the new keys. -/
theorem out16 (c : Dev nD) (b : Fin 128) (k : Fin 8) :
    Pipeline.afterTail₀ cfgs (dats m) 0 (V0 m) [hostOps1] c main_v16 (ix3 b 0 k) = Spec.qScale (knA m c b k) := by
  unfold Pipeline.afterTail₀
  after_reads_at
  refine (congrFun (Pipeline.withArrays_arr spec0 (by decide) c _ _ 9) _).trans (Eq.trans ?_ (row9 m c b k))
  refine congrArg ((dats m 0 c).arrAt 9 cfg0.N) (funext fun a => Fin.ext ?_)
  match a with
  | ⟨0, _⟩ => simp [ix2, rowOf]; omega
  | ⟨1, _⟩ => simp [ix2]
/-- The codes of the new values. -/
theorem out17 (c : Dev nD) (b : Fin 128) (k : Fin 8) (d : Fin 64) :
    Pipeline.afterTail₀ cfgs (dats m) 0 (V0 m) [hostOps1] c main_v17 (ix4 b 0 k d) = Spec.qCode (vnA m c b k) d := by
  unfold Pipeline.afterTail₀
  after_reads_at
  refine (congrFun (Pipeline.withArrays_arr spec0 (by decide) c _ _ 10) _).trans (Eq.trans ?_ (row10 m c b k d))
  refine congrArg ((dats m 0 c).arrAt 10 cfg0.N) (funext fun a => Fin.ext ?_)
  match a with
  | ⟨0, _⟩ => simp [ix3, rowOf]; omega
  | ⟨1, _⟩ => simp [ix3]
  | ⟨2, _⟩ => simp [ix3]
/-- The scales of the new values. -/
theorem out18 (c : Dev nD) (b : Fin 128) (k : Fin 8) :
    Pipeline.afterTail₀ cfgs (dats m) 0 (V0 m) [hostOps1] c main_v18 (ix3 b 0 k) = Spec.qScale (vnA m c b k) := by
  unfold Pipeline.afterTail₀
  after_reads_at
  refine (congrFun (Pipeline.withArrays_arr spec0 (by decide) c _ _ 11) _).trans (Eq.trans ?_ (row11 m c b k))
  refine congrArg ((dats m 0 c).arrAt 11 cfg0.N) (funext fun a => Fin.ext ?_)
  match a with
  | ⟨0, _⟩ => simp [ix2, rowOf]; omega
  | ⟨1, _⟩ => simp [ix2]

end Cert.ReferenceIdeal.Hand

end
-- ==== Proof.Alg.lean ====
module

public import proofs.«01_k».proof.Defs
public import proofs.«01_k».proof.Proof.KArr
public import proofs.«01_k».proof.Proof.RArr

@[expose] public section

/-! The kernel and the reference, from memories agreeing on the arguments, end with equal results. -/

noncomputable section

namespace Cert.KernelIdeal.Hand

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- The contents of a buffer when the kernel has ended. -/
abbrev atEnd (c : Dev nD) (b : Ref sig .tc) : Buf (Elt Ideal) ((c : Thread nD τ).loc b) :=
  Pipeline.afterTail₀ cfgs (dats m) 0 (V0 m) [hostOps1] c b

/-- The kernel ends with its results at `atEnd` and its arguments unchanged. -/
theorem run_results : θ_run defs (onTc (τ := τ) (main (F := Ideal))) ⟨m, fun _ => 0, ρ⟩ (fun r => ∀ c : Dev nD,
      r.2.mem ((c.tc : Thread nD τ).loc main_v12) = atEnd m c main_v12
      ∧ r.2.mem ((c.tc : Thread nD τ).loc main_v14) = atEnd m c main_v14
      ∧ r.2.mem ((c.tc : Thread nD τ).loc main_v16) = atEnd m c main_v16
      ∧ r.2.mem ((c.tc : Thread nD τ).loc main_v18) = atEnd m c main_v18
      ∧ r.2.mem ((c.tc : Thread nD τ).loc main_v20) = atEnd m c main_v20
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c).2 main_v12 (Pipeline.mem_restRefs_of main_v12 (by decide) (by decide)),
      (h c).2 main_v14 (Pipeline.mem_restRefs_of main_v14 (by decide) (by decide)),
      (h c).2 main_v16 (Pipeline.mem_restRefs_of main_v16 (by decide) (by decide)),
      (h c).2 main_v18 (Pipeline.mem_restRefs_of main_v18 (by decide) (by decide)),
      (h c).2 main_v20 (Pipeline.mem_restRefs_of main_v20 (by decide) (by decide)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩) (run_main m ρ)

end Cert.KernelIdeal.Hand

namespace Cert.ReferenceIdeal.Hand

open Cert.ReferenceIdeal Cert.ReferenceIdeal.Gen
open Idealize.ShloMosaic Idealize.ShloMosaic.TcCoe Idealize.SL.Sem

variable (m : (ℓ : Loc nD τ sig) → Buf (Elt Ideal) ℓ) (ρ : Dev nD → PrngReg)

/-- The contents of a buffer when the reference has ended. -/
abbrev atEnd (c : Dev nD) (b : Ref sig .tc) : Buf (Elt Ideal) ((c : Thread nD τ).loc b) :=
  Pipeline.afterTail₀ cfgs (dats m) 0 (V0 m) [hostOps1] c b

/-- The reference ends with its results at `atEnd` and its arguments unchanged. -/
theorem run_results : θ_run defs (onTc (τ := τ) (main (F := Ideal))) ⟨m, fun _ => 0, ρ⟩ (fun r => ∀ c : Dev nD,
      r.2.mem ((c.tc : Thread nD τ).loc main_v14) = atEnd m c main_v14
      ∧ r.2.mem ((c.tc : Thread nD τ).loc main_v15) = atEnd m c main_v15
      ∧ r.2.mem ((c.tc : Thread nD τ).loc main_v16) = atEnd m c main_v16
      ∧ r.2.mem ((c.tc : Thread nD τ).loc main_v17) = atEnd m c main_v17
      ∧ r.2.mem ((c.tc : Thread nD τ).loc main_v18) = atEnd m c main_v18
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c).2 main_v14 (Pipeline.mem_restRefs_of main_v14 (by decide) (by decide)),
      (h c).2 main_v15 (Pipeline.mem_restRefs_of main_v15 (by decide) (by decide)),
      (h c).2 main_v16 (Pipeline.mem_restRefs_of main_v16 (by decide) (by decide)),
      (h c).2 main_v17 (Pipeline.mem_restRefs_of main_v17 (by decide) (by decide)),
      (h c).2 main_v18 (Pipeline.mem_restRefs_of main_v18 (by decide) (by decide)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩) (run_main m ρ)

end Cert.ReferenceIdeal.Hand

namespace Cert.Results

open Idealize.ShloMosaic Idealize.ShloMosaic.TcCoe Idealize.SL.Sem

variable (m : (ℓ : Loc KernelIdeal.nD KernelIdeal.τ KernelIdeal.sig) → Buf (Elt Ideal) ℓ)
  (m' : (ℓ : Loc ReferenceIdeal.nD ReferenceIdeal.τ ReferenceIdeal.sig) → Buf (Elt Ideal) ℓ)

/-- The two memories agree on the arguments of a device. -/
def Agree (c : Dev KernelIdeal.nD) : Prop :=
  m' ((c.tc : Thread ReferenceIdeal.nD ReferenceIdeal.τ).loc ReferenceIdeal.main_arg0) = m ((c.tc : Thread KernelIdeal.nD KernelIdeal.τ).loc KernelIdeal.main_arg0)
  ∧ m' ((c.tc : Thread ReferenceIdeal.nD ReferenceIdeal.τ).loc ReferenceIdeal.main_arg1) = m ((c.tc : Thread KernelIdeal.nD KernelIdeal.τ).loc KernelIdeal.main_arg1)
  ∧ m' ((c.tc : Thread ReferenceIdeal.nD ReferenceIdeal.τ).loc ReferenceIdeal.main_arg2) = m ((c.tc : Thread KernelIdeal.nD KernelIdeal.τ).loc KernelIdeal.main_arg2)
  ∧ m' ((c.tc : Thread ReferenceIdeal.nD ReferenceIdeal.τ).loc ReferenceIdeal.main_arg3) = m ((c.tc : Thread KernelIdeal.nD KernelIdeal.τ).loc KernelIdeal.main_arg3)
  ∧ m' ((c.tc : Thread ReferenceIdeal.nD ReferenceIdeal.τ).loc ReferenceIdeal.main_arg4) = m ((c.tc : Thread KernelIdeal.nD KernelIdeal.τ).loc KernelIdeal.main_arg4)
  ∧ m' ((c.tc : Thread ReferenceIdeal.nD ReferenceIdeal.τ).loc ReferenceIdeal.main_arg5) = m ((c.tc : Thread KernelIdeal.nD KernelIdeal.τ).loc KernelIdeal.main_arg5)
  ∧ m' ((c.tc : Thread ReferenceIdeal.nD ReferenceIdeal.τ).loc ReferenceIdeal.main_arg6) = m ((c.tc : Thread KernelIdeal.nD KernelIdeal.τ).loc KernelIdeal.main_arg6)

variable {m m'}

theorem qA_eq (c : Dev KernelIdeal.nD) (h : Agree m m' c) : ReferenceIdeal.Hand.qA m' c = KernelIdeal.Hand.qA m c :=
  funext fun b => funext fun x => congrFun (h.1) (ix3 b 0 x)
theorem knA_eq (c : Dev KernelIdeal.nD) (h : Agree m m' c) : ReferenceIdeal.Hand.knA m' c = KernelIdeal.Hand.knA m c :=
  funext fun b => funext fun k => funext fun x => congrFun (h.2.1) (ix4 b 0 k x)
theorem vnA_eq (c : Dev KernelIdeal.nD) (h : Agree m m' c) : ReferenceIdeal.Hand.vnA m' c = KernelIdeal.Hand.vnA m c :=
  funext fun b => funext fun k => funext fun x => congrFun (h.2.2.1) (ix4 b 0 k x)
theorem kcA_eq (c : Dev KernelIdeal.nD) (h : Agree m m' c) : ReferenceIdeal.Hand.kcA m' c = KernelIdeal.Hand.kcA m c :=
  funext fun b => funext fun t => funext fun k => funext fun x => congrFun (h.2.2.2.1) (ix4 b t k x)
theorem ksA_eq (c : Dev KernelIdeal.nD) (h : Agree m m' c) : ReferenceIdeal.Hand.ksA m' c = KernelIdeal.Hand.ksA m c :=
  funext fun b => funext fun t => funext fun k => congrFun (h.2.2.2.2.1) (ix3 b t k)
theorem vcA_eq (c : Dev KernelIdeal.nD) (h : Agree m m' c) : ReferenceIdeal.Hand.vcA m' c = KernelIdeal.Hand.vcA m c :=
  funext fun b => funext fun t => funext fun k => funext fun x => congrFun (h.2.2.2.2.2.1) (ix4 b t k x)
theorem vsA_eq (c : Dev KernelIdeal.nD) (h : Agree m m' c) : ReferenceIdeal.Hand.vsA m' c = KernelIdeal.Hand.vsA m c :=
  funext fun b => funext fun t => funext fun k => congrFun (h.2.2.2.2.2.2) (ix3 b t k)

/-- The attention output: the reference's and the kernel's are equal. -/
theorem result0 (c : Dev KernelIdeal.nD) (h : Agree m m' c) :
    ReferenceIdeal.Hand.atEnd m' c ReferenceIdeal.main_v14 = KernelIdeal.Hand.atEnd m c KernelIdeal.main_v12 := by
  funext y
  obtain ⟨b, z, j, rfl⟩ : ∃ (b : Fin 128) (z : Fin 1) (j : Fin 2048), y = ix3 b z j :=
    ⟨y 0, y 1, y 2, (ix3_eta (n0 := 128) (n1 := 1) (n2 := 2048) y).symm⟩
  obtain rfl : z = 0 := Subsingleton.elim _ _
  refine (ReferenceIdeal.Hand.out14 m' c b j).trans (Eq.trans ?_ (KernelIdeal.Hand.out12 m c b j).symm)
  unfold ReferenceIdeal.Hand.yR KernelIdeal.Hand.yK
  rw [qA_eq c h, knA_eq c h, vnA_eq c h, kcA_eq c h, ksA_eq c h, vcA_eq c h, vsA_eq c h]

/-- The codes of the new keys: the reference's and the kernel's are equal. -/
theorem result1 (c : Dev KernelIdeal.nD) (h : Agree m m' c) :
    ReferenceIdeal.Hand.atEnd m' c ReferenceIdeal.main_v15 = KernelIdeal.Hand.atEnd m c KernelIdeal.main_v14 := by
  funext y
  obtain ⟨b, z, k, d, rfl⟩ : ∃ (b : Fin 128) (z : Fin 1) (k : Fin 8) (d : Fin 64), y = ix4 b z k d :=
    ⟨y 0, y 1, y 2, y 3, (ix4_eta (n0 := 128) (n1 := 1) (n2 := 8) (n3 := 64) y).symm⟩
  obtain rfl : z = 0 := Subsingleton.elim _ _
  refine (ReferenceIdeal.Hand.out15 m' c b k d).trans (Eq.trans ?_ (KernelIdeal.Hand.out14 m c b k d).symm)
  rw [knA_eq c h]

/-- The scales of the new keys: the reference's and the kernel's are equal. -/
theorem result2 (c : Dev KernelIdeal.nD) (h : Agree m m' c) :
    ReferenceIdeal.Hand.atEnd m' c ReferenceIdeal.main_v16 = KernelIdeal.Hand.atEnd m c KernelIdeal.main_v16 := by
  funext y
  obtain ⟨b, z, k, rfl⟩ : ∃ (b : Fin 128) (z : Fin 1) (k : Fin 8), y = ix3 b z k :=
    ⟨y 0, y 1, y 2, (ix3_eta (n0 := 128) (n1 := 1) (n2 := 8) y).symm⟩
  obtain rfl : z = 0 := Subsingleton.elim _ _
  refine (ReferenceIdeal.Hand.out16 m' c b k).trans (Eq.trans ?_ (KernelIdeal.Hand.out16 m c b k).symm)
  rw [knA_eq c h]

/-- The codes of the new values: the reference's and the kernel's are equal. -/
theorem result3 (c : Dev KernelIdeal.nD) (h : Agree m m' c) :
    ReferenceIdeal.Hand.atEnd m' c ReferenceIdeal.main_v17 = KernelIdeal.Hand.atEnd m c KernelIdeal.main_v18 := by
  funext y
  obtain ⟨b, z, k, d, rfl⟩ : ∃ (b : Fin 128) (z : Fin 1) (k : Fin 8) (d : Fin 64), y = ix4 b z k d :=
    ⟨y 0, y 1, y 2, y 3, (ix4_eta (n0 := 128) (n1 := 1) (n2 := 8) (n3 := 64) y).symm⟩
  obtain rfl : z = 0 := Subsingleton.elim _ _
  refine (ReferenceIdeal.Hand.out17 m' c b k d).trans (Eq.trans ?_ (KernelIdeal.Hand.out18 m c b k d).symm)
  rw [vnA_eq c h]

/-- The scales of the new values: the reference's and the kernel's are equal. -/
theorem result4 (c : Dev KernelIdeal.nD) (h : Agree m m' c) :
    ReferenceIdeal.Hand.atEnd m' c ReferenceIdeal.main_v18 = KernelIdeal.Hand.atEnd m c KernelIdeal.main_v20 := by
  funext y
  obtain ⟨b, z, k, rfl⟩ : ∃ (b : Fin 128) (z : Fin 1) (k : Fin 8), y = ix3 b z k :=
    ⟨y 0, y 1, y 2, (ix3_eta (n0 := 128) (n1 := 1) (n2 := 8) y).symm⟩
  obtain rfl : z = 0 := Subsingleton.elim _ _
  refine (ReferenceIdeal.Hand.out18 m' c b k).trans (Eq.trans ?_ (KernelIdeal.Hand.out20 m c b k).symm)
  rw [vnA_eq c h]

/-- The algebraic claim: equal arguments give equal results, and both programs leave their arguments unchanged. -/
theorem algebraic : Cert.algebraic_KernelIdeal_ReferenceIdeal (hKernelIdeal := Cert.KernelIdeal.Gen.facts)
    (hReferenceIdeal := Cert.ReferenceIdeal.Gen.facts) := by
  intro m g m' g' _ hag
  refine ⟨fun c => KernelIdeal.Hand.atEnd m c KernelIdeal.main_v12, fun c => KernelIdeal.Hand.atEnd m c KernelIdeal.main_v14,
    fun c => KernelIdeal.Hand.atEnd m c KernelIdeal.main_v16, fun c => KernelIdeal.Hand.atEnd m c KernelIdeal.main_v18,
    fun c => KernelIdeal.Hand.atEnd m c KernelIdeal.main_v20, KernelIdeal.Hand.run_results m g, ?_⟩
  refine (θ_run _ _ _).mono (fun r h c => ?_) (ReferenceIdeal.Hand.run_results m' g')
  obtain ⟨h0, h1, h2, h3, h4, hargs⟩ := h c
  exact ⟨h0.trans (result0 c (hag c)), h1.trans (result1 c (hag c)), h2.trans (result2 c (hag c)), h3.trans (result3 c (hag c)),
    h4.trans (result4 c (hag c)), hargs⟩

end Cert.Results

end
-- ==== Proof.lean ====
module

public import proofs.«01_k».proof.Defs
public import proofs.«01_k».proof.Proof.Gen.Kernel
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Frame
public import proofs.«01_k».proof.Proof.KDat
public import proofs.«01_k».proof.Proof.KSame
public import proofs.«01_k».proof.Proof.Alg
public import Idealize.ShloMosaic.Adequacy
public import Idealize.ShloMosaic.Init

@[expose] public section

noncomputable section

namespace Cert.Proof

open Idealize.ShloMosaic Idealize.SL.Sem Cert.Kernel

/-- The claims: each program runs to its end and leaves its arguments unchanged, the ideal program is the kernel's
    own, and the kernel's five results equal the reference's over the extended reals. -/
theorem claim : Cert.Claim :=
  ⟨Cert.Kernel.Gen.facts, Cert.KernelIdeal.Gen.facts, Cert.ReferenceIdeal.Gen.facts,
    fun m ρ _ => Cert.Kernel.Hand.frame Bits m ρ, fun m ρ _ => Cert.KernelIdeal.Hand.frame m ρ,
    fun m ρ _ => Cert.ReferenceIdeal.Gen.frame m ρ, trivial, Cert.Results.algebraic⟩

end Cert.Proof

end
